-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x768x6144 : Shape := ⟨3, ![12, 768, 6144]⟩
abbrev S16384x3072 : Shape := ⟨2, ![16384, 3072]⟩
abbrev S16384x48 : Shape := ⟨2, ![16384, 48]⟩
abbrev S9216x6144 : Shape := ⟨2, ![9216, 6144]⟩
abbrev S9216x3072 : Shape := ⟨2, ![9216, 3072]⟩
abbrev S9216x48 : Shape := ⟨2, ![9216, 48]⟩
abbrev S64x6144 : Shape := ⟨2, ![64, 6144]⟩
abbrev S64x3072 : Shape := ⟨2, ![64, 3072]⟩
abbrev S64x48 : Shape := ⟨2, ![64, 48]⟩
abbrev S64x128 : Shape := ⟨2, ![64, 128]⟩
abbrev S64 : Shape := ⟨1, ![64]⟩
abbrev S64x1 : Shape := ⟨2, ![64, 1]⟩
abbrev S64x128x1 : Shape := ⟨3, ![64, 128, 1]⟩
abbrev S16x128 : Shape := ⟨2, ![16, 128]⟩
abbrev S16x128x1 : Shape := ⟨3, ![16, 128, 1]⟩
abbrev S48x16384 : Shape := ⟨2, ![48, 16384]⟩
abbrev S9216x16384 : Shape := ⟨2, ![9216, 16384]⟩
abbrev S1024x6144 : Shape := ⟨2, ![1024, 6144]⟩
abbrev S512x3072 : Shape := ⟨2, ![512, 3072]⟩
abbrev S48x512 : Shape := ⟨2, ![48, 512]⟩
abbrev S1024x512 : Shape := ⟨2, ![1024, 512]⟩
abbrev S6144x512 : Shape := ⟨2, ![6144, 512]⟩
abbrev S512x128 : Shape := ⟨2, ![512, 128]⟩
abbrev S128x512 : Shape := ⟨2, ![128, 512]⟩
abbrev S32x512 : Shape := ⟨2, ![32, 512]⟩
abbrev S1x512 : Shape := ⟨2, ![1, 512]⟩
abbrev S16x512 : Shape := ⟨2, ![16, 512]⟩
abbrev S8x512 : Shape := ⟨2, ![8, 512]⟩
abbrev S12x768x16384 : Shape := ⟨3, ![12, 768, 16384]⟩
abbrev S12x768x3072 : Shape := ⟨3, ![12, 768, 3072]⟩
abbrev S12x768x48 : Shape := ⟨3, ![12, 768, 48]⟩

abbrev nBuf : Space → Nat
  | .hbm => 14
  | .vmem => 19
  | .smem => 0
  | _ => 0

abbrev bufTy : (tb : Table) → Fin (tcTables nBuf tb) → BufTy
  | .hbm, ⟨0, _⟩ => ⟨S12x768x6144, .bf16⟩
  | .hbm, ⟨1, _⟩ => ⟨S16384x3072, .i8⟩
  | .hbm, ⟨2, _⟩ => ⟨S16384x48, .f32⟩
  | .hbm, ⟨3, _⟩ => ⟨S9216x6144, .bf16⟩
  | .hbm, ⟨4, _⟩ => ⟨S9216x6144, .bf16⟩
  | .hbm, ⟨5, _⟩ => ⟨S9216x3072, .i8⟩
  | .hbm, ⟨6, _⟩ => ⟨S9216x48, .f32⟩
  | .hbm, ⟨7, _⟩ => ⟨S9216x48, .i8⟩
  | .hbm, ⟨8, _⟩ => ⟨S48x16384, .f32⟩
  | .hbm, ⟨9, _⟩ => ⟨S9216x16384, .bf16⟩
  | .hbm, ⟨10, _⟩ => ⟨S12x768x16384, .bf16⟩
  | .hbm, ⟨11, _⟩ => ⟨S12x768x3072, .i8⟩
  | .hbm, ⟨12, _⟩ => ⟨S12x768x48, .f32⟩
  | .hbm, ⟨13, _⟩ => ⟨S12x768x48, .i8⟩
  | .local _ .vmem, ⟨0, _⟩ => ⟨S64x6144, .bf16⟩
  | .local _ .vmem, ⟨1, _⟩ => ⟨S64x6144, .bf16⟩
  | .local _ .vmem, ⟨2, _⟩ => ⟨S64x6144, .bf16⟩
  | .local _ .vmem, ⟨3, _⟩ => ⟨S64x6144, .bf16⟩
  | .local _ .vmem, ⟨4, _⟩ => ⟨S64x3072, .i8⟩
  | .local _ .vmem, ⟨5, _⟩ => ⟨S64x3072, .i8⟩
  | .local _ .vmem, ⟨6, _⟩ => ⟨S64x48, .f32⟩
  | .local _ .vmem, ⟨7, _⟩ => ⟨S64x48, .f32⟩
  | .local _ .vmem, ⟨8, _⟩ => ⟨S64x48, .i8⟩
  | .local _ .vmem, ⟨9, _⟩ => ⟨S64x48, .i8⟩
  | .local _ .vmem, ⟨10, _⟩ => ⟨S1024x6144, .bf16⟩
  | .local _ .vmem, ⟨11, _⟩ => ⟨S1024x6144, .bf16⟩
  | .local _ .vmem, ⟨12, _⟩ => ⟨S512x3072, .i8⟩
  | .local _ .vmem, ⟨13, _⟩ => ⟨S512x3072, .i8⟩
  | .local _ .vmem, ⟨14, _⟩ => ⟨S48x512, .f32⟩
  | .local _ .vmem, ⟨15, _⟩ => ⟨S48x512, .f32⟩
  | .local _ .vmem, ⟨16, _⟩ => ⟨S1024x512, .bf16⟩
  | .local _ .vmem, ⟨17, _⟩ => ⟨S1024x512, .bf16⟩
  | .local _ .vmem, ⟨18, _⟩ => ⟨S6144x512, .bf16⟩
  | _, _ => ⟨S12x768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![144], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x48 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![9, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x6144 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x3072 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S48x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S12x768x6144 : Shape := ⟨3, ![12, 768, 6144]⟩
abbrev S16384x3072 : Shape := ⟨2, ![16384, 3072]⟩
abbrev S16384x48 : Shape := ⟨2, ![16384, 48]⟩
abbrev S12x768x48x128 : Shape := ⟨4, ![12, 768, 48, 128]⟩
abbrev S_ : Shape := ⟨0, ![]⟩
abbrev S12x768x48 : Shape := ⟨3, ![12, 768, 48]⟩
abbrev S12x768x48x1 : Shape := ⟨4, ![12, 768, 48, 1]⟩
abbrev S12x768x48x64x2 : Shape := ⟨5, ![12, 768, 48, 64, 2]⟩
abbrev S12x768x48x64x1 : Shape := ⟨5, ![12, 768, 48, 64, 1]⟩
abbrev S12x768x48x64 : Shape := ⟨4, ![12, 768, 48, 64]⟩
abbrev S12x768x3072 : Shape := ⟨3, ![12, 768, 3072]⟩
abbrev S16384x48x64 : Shape := ⟨3, ![16384, 48, 64]⟩
abbrev S16384x48x1 : Shape := ⟨3, ![16384, 48, 1]⟩
abbrev S12x768x16384 : Shape := ⟨3, ![12, 768, 16384]⟩

abbrev nBuf : Space → Nat
  | .hbm => 108
  | .vmem => 0
  | .smem => 0
  | _ => 0

abbrev bufTy : (tb : Table) → Fin (tcTables nBuf tb) → BufTy
  | .hbm, ⟨0, _⟩ => ⟨S12x768x6144, .bf16⟩
  | .hbm, ⟨1, _⟩ => ⟨S16384x3072, .i8⟩
  | .hbm, ⟨2, _⟩ => ⟨S16384x48, .f32⟩
  | .hbm, ⟨3, _⟩ => ⟨S12x768x6144, .f32⟩
  | .hbm, ⟨4, _⟩ => ⟨S12x768x48x128, .f32⟩
  | .hbm, ⟨5, _⟩ => ⟨S_, .f32⟩
  | .hbm, ⟨6, _⟩ => ⟨S12x768x48, .f32⟩
  | .hbm, ⟨7, _⟩ => ⟨S_, .f32⟩
  | .hbm, ⟨8, _⟩ => ⟨S12x768x48, .f32⟩
  | .hbm, ⟨9, _⟩ => ⟨S12x768x48, .f32⟩
  | .hbm, ⟨10, _⟩ => ⟨S_, .f32⟩
  | .hbm, ⟨11, _⟩ => ⟨S12x768x48, .f32⟩
  | .hbm, ⟨12, _⟩ => ⟨S_, .f32⟩
  | .hbm, ⟨13, _⟩ => ⟨S12x768x48, .f32⟩
  | .hbm, ⟨14, _⟩ => ⟨S12x768x48, .f32⟩
  | .hbm, ⟨15, _⟩ => ⟨S12x768x48, .i1⟩
  | .hbm, ⟨16, _⟩ => ⟨S12x768x48, .f32⟩
  | .hbm, ⟨17, _⟩ => ⟨S_, .f32⟩
  | .hbm, ⟨18, _⟩ => ⟨S12x768x48, .f32⟩
  | .hbm, ⟨19, _⟩ => ⟨S12x768x48, .f32⟩
  | .hbm, ⟨20, _⟩ => ⟨S_, .f32⟩
  | .hbm, ⟨21, _⟩ => ⟨S12x768x48, .f32⟩
  | .hbm, ⟨22, _⟩ => ⟨S12x768x48, .f32⟩
  | .hbm, ⟨23, _⟩ => ⟨S12x768x48, .f32⟩
  | .hbm, ⟨24, _⟩ => ⟨S12x768x48, .f32⟩
  | .hbm, ⟨25, _⟩ => ⟨S12x768x48, .f32⟩
  | .hbm, ⟨26, _⟩ => ⟨S12x768x48x1, .f32⟩
  | .hbm, ⟨27, _⟩ => ⟨S12x768x48x128, .f32⟩
  | .hbm, ⟨28, _⟩ => ⟨S12x768x48x128, .f32⟩
  | .hbm, ⟨29, _⟩ => ⟨S12x768x48x128, .f32⟩
  | .hbm, ⟨30, _⟩ => ⟨S12x768x48x1, .f32⟩
  | .hbm, ⟨31, _⟩ => ⟨S12x768x48x128, .f32⟩
  | .hbm, ⟨32, _⟩ => ⟨S12x768x48x128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S12x768x48x128, .f32⟩
  | .hbm, ⟨37, _⟩ => ⟨S12x768x48x128, .f32⟩
  | .hbm, ⟨38, _⟩ => ⟨S_, .f32⟩
  | .hbm, ⟨39, _⟩ => ⟨S12x768x48x128, .f32⟩
  | .hbm, ⟨40, _⟩ => ⟨S12x768x48x128, .f32⟩
  | .hbm, ⟨41, _⟩ => ⟨S12x768x48x128, .i32⟩
  | .hbm, ⟨42, _⟩ => ⟨S12x768x48x128, .i8⟩
  | .hbm, ⟨43, _⟩ => ⟨S12x768x48, .i32⟩
  | .hbm, ⟨44, _⟩ => ⟨S12x768x48, .i8⟩
  | .hbm, ⟨45, _⟩ => ⟨S12x768x48x64x2, .i8⟩
  | .hbm, ⟨46, _⟩ => ⟨S12x768x48x64x1, .i8⟩
  | .hbm, ⟨47, _⟩ => ⟨S12x768x48x64, .i8⟩
  | .hbm, ⟨48, _⟩ => ⟨S12x768x48x64x1, .i8⟩
  | .hbm, ⟨49, _⟩ => ⟨S12x768x48x64, .i8⟩
  | .hbm, ⟨50, _⟩ => ⟨S12x768x48x64, .i32⟩
  | .hbm, ⟨51, _⟩ => ⟨S12x768x48x64, .i32⟩
  | .hbm, ⟨52, _⟩ => ⟨S_, .i32⟩
  | .hbm, ⟨53, _⟩ => ⟨S12x768x48x64, .i32⟩
  | .hbm, ⟨54, _⟩ => ⟨S12x768x48x64, .i32⟩
  | .hbm, ⟨55, _⟩ => ⟨S12x768x48x64, .i32⟩
  | .hbm, ⟨56, _⟩ => ⟨S12x768x48x64, .i8⟩
  | .hbm, ⟨57, _⟩ => ⟨S12x768x3072, .i8⟩
  | .hbm, ⟨58, _⟩ => ⟨S12x768x48, .i32⟩
  | .hbm, ⟨59, _⟩ => ⟨S12x768x48x1, .i32⟩
  | .hbm, ⟨60, _⟩ => ⟨S12x768x48, .bf16⟩
  | .hbm, ⟨61, _⟩ => ⟨S12x768x48x1, .bf16⟩
  | .hbm, ⟨62, _⟩ => ⟨S16384x3072, .i32⟩
  | .hbm, ⟨63, _⟩ => ⟨S16384x48x64, .i32⟩
  | .hbm, ⟨64, _⟩ => ⟨S16384x48, .bf16⟩
  | .hbm, ⟨65, _⟩ => ⟨S16384x48x1, .bf16⟩
  | .hbm, ⟨66, _⟩ => ⟨S12x768x48x64, .i32⟩
  | .hbm, ⟨67, _⟩ => ⟨S12x768x48x64, .i32⟩
  | .hbm, ⟨68, _⟩ => ⟨S12x768x48x64, .i32⟩
  | .hbm, ⟨69, _⟩ => ⟨S12x768x48x64, .bf16⟩
  | .hbm, ⟨70, _⟩ => ⟨S12x768x48x64, .bf16⟩
  | .hbm, ⟨71, _⟩ => ⟨S12x768x48x64, .bf16⟩
  | .hbm, ⟨72, _⟩ => ⟨S_, .i32⟩
  | .hbm, ⟨73, _⟩ => ⟨S16384x48x64, .i32⟩
  | .hbm, ⟨74, _⟩ => ⟨S16384x48x64, .i32⟩
  | .hbm, ⟨75, _⟩ => ⟨S_, .i32⟩
  | .hbm, ⟨76, _⟩ => ⟨S16384x48x64, .i32⟩
  | .hbm, ⟨77, _⟩ => ⟨S16384x48x64, .i1⟩
  | .hbm, ⟨78, _⟩ => ⟨S_, .i32⟩
  | .hbm, ⟨79, _⟩ => ⟨S16384x48x64, .i32⟩
  | .hbm, ⟨80, _⟩ => ⟨S16384x48x64, .i32⟩
  | .hbm, ⟨81, _⟩ => ⟨S16384x48x64, .i32⟩
  | .hbm, ⟨82, _⟩ => ⟨S16384x48x64, .bf16⟩
  | .hbm, ⟨83, _⟩ => ⟨S16384x48x64, .bf16⟩
  | .hbm, ⟨84, _⟩ => ⟨S16384x48x64, .bf16⟩
  | .hbm, ⟨85, _⟩ => ⟨S12x768x16384, .f32⟩
  | .hbm, ⟨86, _⟩ => ⟨S12x768x48x64, .i32⟩
  | .hbm, ⟨87, _⟩ => ⟨S12x768x48x64, .i32⟩
  | .hbm, ⟨88, _⟩ => ⟨S12x768x48x64, .i32⟩
  | .hbm, ⟨89, _⟩ => ⟨S12x768x48x64, .bf16⟩
  | .hbm, ⟨90, _⟩ => ⟨S12x768x48x64, .bf16⟩
  | .hbm, ⟨91, _⟩ => ⟨S12x768x48x64, .bf16⟩
  | .hbm, ⟨92, _⟩ => ⟨S_, .i32⟩
  | .hbm, ⟨93, _⟩ => ⟨S16384x48x64, .i32⟩
  | .hbm, ⟨94, _⟩ => ⟨S16384x48x64, .i32⟩
  | .hbm, ⟨95, _⟩ => ⟨S_, .i32⟩
  | .hbm, ⟨96, _⟩ => ⟨S16384x48x64, .i32⟩
  | .hbm, ⟨97, _⟩ => ⟨S16384x48x64, .i1⟩
  | .hbm, ⟨98, _⟩ => ⟨S_, .i32⟩
  | .hbm, ⟨99, _⟩ => ⟨S16384x48x64, .i32⟩
  | .hbm, ⟨100, _⟩ => ⟨S16384x48x64, .i32⟩
  | .hbm, ⟨101, _⟩ => ⟨S16384x48x64, .i32⟩
  | .hbm, ⟨102, _⟩ => ⟨S16384x48x64, .bf16⟩
  | .hbm, ⟨103, _⟩ => ⟨S16384x48x64, .bf16⟩
  | .hbm, ⟨104, _⟩ => ⟨S16384x48x64, .bf16⟩
  | .hbm, ⟨105, _⟩ => ⟨S12x768x16384, .f32⟩
  | .hbm, ⟨106, _⟩ => ⟨S12x768x16384, .f32⟩
  | .hbm, ⟨107, _⟩ => ⟨S12x768x16384, .bf16⟩
  | _, _ => ⟨S12x768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_cst_6 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_7 : Ref sig .tc := ⟨.hbm, 72, rfl⟩
abbrev main_v54 : Ref sig .tc := ⟨.hbm, 73, rfl⟩
abbrev main_v55 : Ref sig .tc := ⟨.hbm, 74, rfl⟩
abbrev main_c_8 : Ref sig .tc := ⟨.hbm, 75, rfl⟩
abbrev main_v56 : Ref sig .tc := ⟨.hbm, 76, rfl⟩
abbrev main_v57 : Ref sig .tc := ⟨.hbm, 77, rfl⟩
abbrev main_c_9 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c_10 : Ref sig .tc := ⟨.hbm, 92, rfl⟩
abbrev main_v71 : Ref sig .tc := ⟨.hbm, 93, rfl⟩
abbrev main_v72 : Ref sig .tc := ⟨.hbm, 94, rfl⟩
abbrev main_c_11 : Ref sig .tc := ⟨.hbm, 95, rfl⟩
abbrev main_v73 : Ref sig .tc := ⟨.hbm, 96, rfl⟩
abbrev main_v74 : Ref sig .tc := ⟨.hbm, 97, rfl⟩
abbrev main_c_12 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩

abbrev nD : Nat := 1
abbrev τ : Topo := Topo.v7x

variable {F : FTy → Type} [FloatOps F]
-- ==== Proof.Spec.lean ====
/- The quantiser of one group of 128 values, over the extended reals, and the facts about it that both programs need. -/
module

public import Idealize.ShloMosaic.Lib.Pipeline.Value
public import Idealize.ShloMosaic.PureOps.Ideal
public import Idealize.ShloMosaic.Lib.IdealHost

@[expose] public section

noncomputable section

namespace Cert.Proof

open Idealize.ShloMosaic

/-- The least value of a group, and zero. -/
def lo (v : Fin 128 → EReal) : EReal := min 0 (Finset.univ.fold min (Ideal.ofBits .f32 0x7F800000#32) v)

/-- The greatest value of a group, and zero. -/
def hi (v : Fin 128 → EReal) : EReal := max 0 (Finset.univ.fold max (Ideal.ofBits .f32 0xFF800000#32) v)

/-- The group's scale. -/
def scale (v : Fin 128 → EReal) : EReal :=
  if hi v = lo v then 1 else Ideal.div (hi v - lo v) (Ideal.ofBits .f32 0x41700000#32)

/-- The group's zero point, before it is made an integer. -/
def zp (v : Fin 128 → EReal) : EReal := Ideal.liftRound Ideal.roundHalfEven (Ideal.div (-(lo v)) (scale v))

/-- The code of element `k`, before it is made an integer. -/
def code (v : Fin 128 → EReal) (k : Fin 128) : EReal :=
  min (Ideal.ofBits .f32 0x41700000#32)
    (max 0 (Ideal.liftRound Ideal.roundHalfEven (Ideal.div (v k) (scale v)) + zp v))

/-- The zero point as a word. -/
def zpW (v : Fin 128 → EReal) : BitVec 32 := Ideal.fptosi 32 (zp v)

/-- The code as a word. -/
def codeW (v : Fin 128 → EReal) (k : Fin 128) : BitVec 32 := Ideal.fptosi 32 (code v k)

/-- The activation that enters the product. -/
def act (v : Fin 128 → EReal) (k : Fin 128) : EReal := (code v k - zp v) * scale v

theorem c15 : Ideal.ofBits .f32 0x41700000#32 = ((15 : ℝ) : EReal) := by
  show Ideal.ieee 8 23 0x41700000#32 = _
  unfold Ideal.ieee
  rw [show BitVec.extractLsb' (8 + 23) 1 0x41700000#32 = 0#1 by decide,
    show (BitVec.extractLsb' 23 8 0x41700000#32).toNat = 130 by decide,
    show (BitVec.extractLsb' 0 23 0x41700000#32).toNat = 0x700000 by decide]
  norm_num

theorem rhe_bounds (r : ℝ) (h0 : 0 ≤ r) (h1 : r ≤ 15) : 0 ≤ Ideal.roundHalfEven r ∧ Ideal.roundHalfEven r ≤ 15 := by
  have f0 : 0 ≤ ⌊r⌋ := Int.floor_nonneg.mpr h0
  have f1 : ⌊r⌋ ≤ 15 := by
    have : ((⌊r⌋ : ℤ) : ℝ) ≤ 15 := (Int.floor_le r).trans h1
    exact_mod_cast this
  by_cases h : ⌊r⌋ = 15
  · have : r - (⌊r⌋ : ℝ) ≤ 0 := by rw [h]; push_cast; linarith
    unfold Ideal.roundHalfEven
    simp only
    rw [if_pos (by linarith)]
    exact ⟨f0, f1⟩
  · have f2 : ⌊r⌋ ≤ 14 := by omega
    unfold Ideal.roundHalfEven
    simp only
    split_ifs <;> constructor <;> omega

/-- A natural number below 16 made a 32-bit word is that number. -/
theorem fptosi_nat (n : ℕ) (h : n ≤ 15) : Ideal.fptosi 32 (((n : ℕ) : ℝ) : EReal) = BitVec.ofNat 32 n := by
  unfold Ideal.fptosi
  rw [Ideal.toIntClamped_coe, if_pos (by positivity), Int.floor_natCast]
  rw [show max (-((2 ^ (32 - 1) : ℕ) : ℤ)) (min (((2 ^ (32 - 1) : ℕ) : ℤ) - 1) (n : ℤ)) = (n : ℤ) by
    norm_num; omega]
  exact BitVec.ofInt_natCast 32 n

theorem lo_le (v : Fin 128 → EReal) : lo v ≤ 0 := min_le_left _ _
theorem le_hi (v : Fin 128 → EReal) : 0 ≤ hi v := le_max_left _ _

theorem zp_nat (v : Fin 128 → EReal) : ∃ n : ℕ, n ≤ 15 ∧ zp v = ((n : ℝ) : EReal) := by
  have hlo := lo_le v
  have hhi := le_hi v
  unfold zp scale
  by_cases he : hi v = lo v
  · have h0 : lo v = 0 := le_antisymm hlo (he ▸ hhi)
    refine ⟨0, by norm_num, ?_⟩
    rw [if_pos he, h0, Ideal.div, if_neg one_ne_zero, neg_zero, zero_mul]
    show ((Ideal.roundHalfEven 0 : ℝ) : EReal) = _
    norm_num [Ideal.roundHalfEven]
  · rw [if_neg he, c15]
    have top : ∀ x : EReal, Ideal.liftRound Ideal.roundHalfEven (Ideal.div x (Ideal.div ⊤ ((15 : ℝ) : EReal))) = (((0 : ℕ) : ℝ) : EReal) := by
      intro x
      rw [Ideal.div_coe (by norm_num) ⊤, EReal.top_mul_coe_of_pos (by norm_num), Ideal.div, if_neg (by simp),
        EReal.inv_top, mul_zero]
      show ((Ideal.roundHalfEven 0 : ℝ) : EReal) = _
      norm_num [Ideal.roundHalfEven]
    generalize lo v = a at *
    generalize hi v = b at *
    induction a with
    | bot =>
      refine ⟨0, by norm_num, ?_⟩
      rw [EReal.sub_bot (by rintro rfl; simp at hhi), top]
    | top => simp at hlo
    | coe a =>
      induction b with
      | bot => simp at hhi
      | top => exact ⟨0, by norm_num, by rw [EReal.top_sub_coe, top]⟩
      | coe b =>
        have ha : a ≤ 0 := by exact_mod_cast hlo
        have hb : 0 ≤ b := by exact_mod_cast hhi
        have hab : b ≠ a := by exact_mod_cast he
        have hd : 0 < b - a := by
          rcases lt_or_eq_of_le (ha.trans hb) with h | h
          · linarith
          · exact absurd h.symm hab
        rw [← EReal.coe_sub, Ideal.div_coe (by norm_num), ← EReal.coe_mul, ← EReal.coe_neg,
          Ideal.div_coe (by positivity), ← EReal.coe_mul]
        set r : ℝ := -a * (1 / ((b - a) * (1 / 15))) with hr
        have hr' : r = 15 * (-a) / (b - a) := by rw [hr]; field_simp
        have r0 : 0 ≤ r := by rw [hr']; apply div_nonneg <;> linarith
        have r1 : r ≤ 15 := by rw [hr', div_le_iff₀ hd]; linarith
        obtain ⟨i0, i1⟩ := rhe_bounds r r0 r1
        refine ⟨(Ideal.roundHalfEven r).toNat, by omega, ?_⟩
        show ((Ideal.roundHalfEven r : ℝ) : EReal) = _
        congr 1
        have := Int.toNat_of_nonneg i0
        exact_mod_cast this.symm

theorem code_nat (v : Fin 128 → EReal) (k : Fin 128) : ∃ n : ℕ, n ≤ 15 ∧ code v k = ((n : ℝ) : EReal) := by
  obtain ⟨z, _, hz⟩ := zp_nat v
  unfold code
  rw [hz, c15]
  generalize Ideal.div (v k) (scale v) = x
  induction x with
  | bot => exact ⟨0, by norm_num, by
    rw [show Ideal.liftRound Ideal.roundHalfEven ⊥ = ⊥ from rfl, EReal.bot_add, max_eq_left bot_le]
    rw [Nat.cast_zero, EReal.coe_zero, min_eq_right (by exact_mod_cast (by norm_num : (0:ℝ) ≤ 15))]⟩
  | top =>
    refine ⟨15, le_refl _, ?_⟩
    rw [show Ideal.liftRound Ideal.roundHalfEven ⊤ = ⊤ from rfl, EReal.top_add_coe, max_eq_right le_top, min_eq_left le_top]
    norm_num
  | coe x =>
    rw [show Ideal.liftRound Ideal.roundHalfEven (x : EReal) = ((Ideal.roundHalfEven x : ℝ) : EReal) from rfl]
    refine ⟨(min 15 (max 0 (Ideal.roundHalfEven x + z))).toNat, by omega, ?_⟩
    rw [← EReal.coe_add, ← EReal.coe_zero, ← EReal.coe_strictMono.monotone.map_max, ← EReal.coe_strictMono.monotone.map_min]
    congr 1
    have h := Int.toNat_of_nonneg (show 0 ≤ min 15 (max 0 (Ideal.roundHalfEven x + z)) by omega)
    have h2 : (((min 15 (max 0 (Ideal.roundHalfEven x + z))).toNat : ℤ) : ℝ)
        = ((min 15 (max 0 (Ideal.roundHalfEven x + z)) : ℤ) : ℝ) := by rw [h]
    rw [Int.cast_natCast] at h2
    rw [h2]
    push_cast
    rfl

theorem zpW_le (v : Fin 128 → EReal) : (zpW v).toNat ≤ 15 := by
  obtain ⟨n, hn, h⟩ := zp_nat v
  rw [zpW, h, fptosi_nat n hn, BitVec.toNat_ofNat]; omega

theorem codeW_le (v : Fin 128 → EReal) (k : Fin 128) : (codeW v k).toNat ≤ 15 := by
  obtain ⟨n, hn, h⟩ := code_nat v k
  rw [codeW, h, fptosi_nat n hn, BitVec.toNat_ofNat]; omega

theorem zp_eq (v : Fin 128 → EReal) : zp v = (((zpW v).toNat : ℝ) : EReal) := by
  obtain ⟨n, hn, h⟩ := zp_nat v
  rw [zpW, h, fptosi_nat n hn, BitVec.toNat_ofNat, Nat.mod_eq_of_lt (by omega)]

theorem code_eq (v : Fin 128 → EReal) (k : Fin 128) : code v k = (((codeW v k).toNat : ℝ) : EReal) := by
  obtain ⟨n, hn, h⟩ := code_nat v k
  rw [codeW, h, fptosi_nat n hn, BitVec.toNat_ofNat, Nat.mod_eq_of_lt (by omega)]

/-- The difference of a code and a zero point, taken in 32-bit words through bytes, is the difference of the two numbers. -/
theorem sub_words (a b : BitVec 32) (ha : a.toNat ≤ 15) (hb : b.toNat ≤ 15) :
    ((((a.setWidth 8).setWidth 32 - (b.setWidth 8).setWidth 32).toInt : ℝ) : EReal) = ((a.toNat : ℝ) : EReal) - ((b.toNat : ℝ) : EReal) := by
  rw [← EReal.coe_sub]
  congr 1
  have e : ((a.setWidth 8).setWidth 32 - (b.setWidth 8).setWidth 32).toInt = (a.toNat : ℤ) - (b.toNat : ℤ) := by
    rw [BitVec.toInt_sub, BitVec.toInt_eq_toNat_of_lt (by simp; omega), BitVec.toInt_eq_toNat_of_lt (by simp; omega)]
    simp only [BitVec.toNat_setWidth]
    rw [Int.bmod_eq_of_le (by omega) (by omega)]
    omega
  rw [e]; push_cast; rfl

theorem act_eq (v : Fin 128 → EReal) (k : Fin 128) :
    ((((((codeW v k).setWidth 8).setWidth 32 - ((zpW v).setWidth 8).setWidth 32).toInt : ℝ) : EReal)) * scale v = act v k := by
  rw [sub_words _ _ (codeW_le v k) (zpW_le v), act, code_eq, zp_eq]

/-- The value of a four-bit field, read as a signed number. -/
def sext4 (n : ℕ) : EReal := (((if 8 ≤ n then (n : ℤ) - 16 else (n : ℤ) : ℤ) : ℝ) : EReal)

end Cert.Proof

end
-- ==== Proof.Q0.lean ====
/- The quantising kernel's body on one pair of groups: each value it stores, read at an index. -/
module

public import proofs.«01_k».proof.Proof.Gen.KernelIdeal.Skeleton
public import proofs.«01_k».proof.Proof.Spec
public import Idealize.ShloMosaic.Lib.Pipeline.Value
public import Idealize.ShloMosaic.Lib.Pointwise
public import Idealize.ShloMosaic.Lib.BitcastFour

@[expose] public section

set_option maxRecDepth 16384

noncomputable section

namespace Cert.Proof

open Idealize.ShloMosaic Cert.KernelIdeal Cert.KernelIdeal.Gen

/-- Row `i` of a block of 128 columns. -/
def grow (v : Vec Ideal S64x128 .bf16) (i : Fin 64) : Fin 128 → EReal := fun k => v (ix2 i k)

theorem pay5_at (v : Vec Ideal S64x128 .bf16) (i : Fin 64) (z : Fin 1) : k0_pay5 v (ix2 i z) = lo (grow v i) := by
  unfold k0_pay5 k0_pay4
  pointwise
  rfl

theorem pay6_at (v : Vec Ideal S64x128 .bf16) (i : Fin 64) (z : Fin 1) : k0_pay6 v (ix2 i z) = scale (grow v i) := by
  unfold k0_pay6
  pointwise [pay5_at]
  unfold k0_pay4
  pointwise
  rfl

theorem pay7_at (v : Vec Ideal S64x128 .bf16) (i : Fin 64) (z : Fin 1) : k0_pay7 v (ix2 i z) = zp (grow v i) := by
  unfold k0_pay7
  pointwise [pay5_at, pay6_at]
  rw [zero_sub]
  rfl

theorem pay8_at (v : Vec Ideal S64x128 .bf16) (i : Fin 64) (k : Fin 128) : k0_pay8 v (ix2 i k) = code (grow v i) k := by
  unfold k0_pay8
  pointwise [pay7_at, pay6_at, k0_pay4]
  rfl

theorem pay25_at (i : Fin 64) (l : Fin 128) : k0_pay25 (ix2 i l) = BitVec.ofNat 32 (l.val / 32 % 2) := by
  unfold k0_pay25 k0_pay24
  pointwise
  clear i
  revert l
  decide +kernel

/-- The operand of the product: lower half. -/
def opLo (va vb : Vec Ideal S64x128 .bf16) : Vec Ideal S64x128 .bf16 :=
  k0_pay30 (k0_pay22 (k0_pay16 vb) (k0_pay17 vb) (k0_pay18 vb)) k0_pay25 (k0_pay27 (k0_pay12 (k0_pay6 va) (k0_pay8 va) (k0_pay11 va))) k0_pay28

/-- The operand of the product: upper half. -/
def opHi (va vb : Vec Ideal S64x128 .bf16) : Vec Ideal S64x128 .bf16 :=
  k0_pay31 (k0_pay22 (k0_pay16 vb) (k0_pay17 vb) (k0_pay18 vb)) k0_pay25 (k0_pay27 (k0_pay12 (k0_pay6 va) (k0_pay8 va) (k0_pay11 va))) k0_pay28

theorem pay12_at (v : Vec Ideal S64x128 .bf16) (i : Fin 64) (k : Fin 128) :
    k0_pay12 (k0_pay6 v) (k0_pay8 v) (k0_pay11 v) (ix2 i k) = act (grow v i) k := by
  unfold k0_pay12 k0_pay11
  pointwise [pay6_at, pay7_at, pay8_at]
  rfl

theorem pay22_at (v : Vec Ideal S64x128 .bf16) (i : Fin 64) (k : Fin 128) :
    k0_pay22 (k0_pay16 v) (k0_pay17 v) (k0_pay18 v) (ix2 i k) = act (grow v i) k :=
  pay12_at v i k

theorem pay27_at (x : Vec Ideal S64x128 .bf16) (i : Fin 64) (l : Fin 128) :
    (k0_pay27 (F := Ideal) x (ix2 i l) : EReal) = x (ix2 i ⟨4 * (l.val % 32) + 2 * (l.val / 32 % 2) + l.val / 64, by omega⟩) := by
  unfold k0_pay27 k0_pay23 k0_pay26 k0_pay24
  pointwise [pay25_at]
  refine congrArg (fun k => x (ix2 i k)) (Fin.ext ?_)
  dsimp only
  clear x i
  revert l
  decide +kernel

theorem pay29_at (x : Vec Ideal S64x128 .f32) (i : Fin 64) (l : Fin 128) :
    (k0_pay29 (F := Ideal) x k0_pay28 (ix2 i l) : EReal) = x (ix2 i ⟨4 * (l.val % 32) + 2 * (1 - l.val / 32 % 2) + l.val / 64, by omega⟩) := by
  unfold k0_pay29 k0_pay28 k0_pay23 k0_pay26 k0_pay24
  pointwise [pay25_at]
  refine congrArg (fun k => x (ix2 i k)) (Fin.ext ?_)
  dsimp only
  clear x i
  revert l
  decide +kernel

/-- The column of the operand's lower half: even 32-lane groups come from the first block. -/
def kLo (l : Fin 128) : Fin 128 := ⟨4 * (l.val % 32) + l.val / 64, by omega⟩
/-- The column of the operand's upper half. -/
def kHi (l : Fin 128) : Fin 128 := ⟨4 * (l.val % 32) + 2 + l.val / 64, by omega⟩

theorem cmp_zero (n : ℕ) (h : n = 0) : IntOp.cmpi CmpIPredicate.eq (BitVec.ofNat 32 n) 0#32 = 1#1 := by subst h; decide
theorem cmp_one (n : ℕ) (h : n = 1) : IntOp.cmpi CmpIPredicate.eq (BitVec.ofNat 32 n) 0#32 = 0#1 := by subst h; decide
theorem par_zero (l : Fin 128) (h : l.val % 2 = 0) : IntOp.cmpi CmpIPredicate.eq (IntOp.andi (BitVec.ofNat 32 l.val) 1#32) 0#32 = 1#1 := by
  revert l; decide +kernel
theorem par_one (l : Fin 128) (h : l.val % 2 = 1) : IntOp.cmpi CmpIPredicate.eq (IntOp.andi (BitVec.ofNat 32 l.val) 1#32) 0#32 = 0#1 := by
  revert l; decide +kernel

theorem odd_cases (l : Fin 128) : l.val / 32 % 2 = 0 ∨ l.val / 32 % 2 = 1 := by omega

theorem opLo_at (va vb : Vec Ideal S64x128 .bf16) (i : Fin 64) (l : Fin 128) :
    (opLo va vb (ix2 i l) : EReal) = if l.val / 32 % 2 = 0 then act (grow va i) (kLo l) else act (grow vb i) (kLo l) := by
  unfold opLo k0_pay30
  pointwise [pay25_at, pay27_at, pay29_at, pay12_at, pay22_at]
  rcases odd_cases l with h | h
  · rw [if_pos h]
    show Scalar.select (IntOp.cmpi CmpIPredicate.eq (BitVec.ofNat 32 (l.val / 32 % 2)) 0#32) _ _ = _
    rw [cmp_zero _ h]
    show act (grow va i) _ = _
    congr 1; apply Fin.ext; show _ + 2 * _ + _ = _; rw [h]; rfl
  · rw [if_neg (by omega)]
    show Scalar.select (IntOp.cmpi CmpIPredicate.eq (BitVec.ofNat 32 (l.val / 32 % 2)) 0#32) _ _ = _
    rw [cmp_one _ h]
    show act (grow vb i) _ = _
    congr 1; apply Fin.ext; show _ + 2 * (1 - _) + _ = _; rw [h]; rfl

theorem opHi_at (va vb : Vec Ideal S64x128 .bf16) (i : Fin 64) (l : Fin 128) :
    (opHi va vb (ix2 i l) : EReal) = if l.val / 32 % 2 = 0 then act (grow vb i) (kHi l) else act (grow va i) (kHi l) := by
  unfold opHi k0_pay31
  pointwise [pay25_at, pay27_at, pay29_at, pay12_at, pay22_at]
  rcases odd_cases l with h | h
  · rw [if_pos h]
    show Scalar.select (IntOp.cmpi CmpIPredicate.eq (BitVec.ofNat 32 (l.val / 32 % 2)) 0#32) _ _ = _
    rw [cmp_zero _ h]
    show act (grow vb i) _ = _
    congr 1; apply Fin.ext; show _ + 2 * (1 - _) + _ = _; rw [h]; rfl
  · rw [if_neg (by omega)]
    show Scalar.select (IntOp.cmpi CmpIPredicate.eq (BitVec.ofNat 32 (l.val / 32 % 2)) 0#32) _ _ = _
    rw [cmp_one _ h]
    show act (grow va i) _ = _
    congr 1; apply Fin.ext; show _ + 2 * _ + _ = _; rw [h]; rfl

/-! ## The codes, two to a byte -/

/-- Words read as bytes: row `i` is byte `i % 4` of word row `i / 4`. -/
theorem bytes_at (y : IVec S16x128 32) (h : S16x128.Bitcasts 32 S64x128 8) (i : Fin 64) (l : Fin 128) (b : ℕ) (hb : b < 8) :
    (bitcast S64x128 8 y h (ix2 i l)).getLsbD b = (y (ix2 ⟨i.val / 4, by omega⟩ l)).getLsbD (8 * (i.val % 4) + b) := by
  rw [bitcast_getLsbD y h _ b hb (by decide)]
  have e1 : (S64x128.row (ix2 i l) * 8 + b) / 32 = i.val / 4 := by
    show (i.val * 8 + b) / 32 = _; omega
  have e2 : (S64x128.row (ix2 i l) * 8 + b) % 32 = 8 * (i.val % 4) + b := by
    show (i.val * 8 + b) % 32 = _; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Two codes in a byte. -/
def pk (a b : BitVec 8) : BitVec 8 := a ||| (b <<< 4)

theorem high_zero (a : BitVec 8) (h : a.toNat ≤ 15) (b : ℕ) (hb : 4 ≤ b) : a.getLsbD b = false := by
  apply Nat.testBit_lt_two_pow
  calc a.toNat ≤ 15 := h
    _ < 2 ^ 4 := by norm_num
    _ ≤ 2 ^ b := Nat.pow_le_pow_right (by norm_num) hb

theorem w8_at (x : IVec S64x128 8) (h : S64x128.Bitcasts 8 S16x128 32) (a : Fin 16) (l : Fin 128) (q : Nat) (hq : q < 32) (p : Fin 64)
    (hp : p.val = 4 * a.val + q / 8) :
    (bitcast S16x128 32 x h (ix2 a l)).getLsbD q = (x (ix2 p l)).getLsbD (q % 8) :=
  bitcast_8_32_getLsbD_ix2 x h a l q hq p hp

theorem pk_word (x : IVec S64x128 8) (y : IVec S64x128 8) (hy : ∀ i l, (y (ix2 i l)).toNat ≤ 15)
    (h : S64x128.Bitcasts 8 S16x128 32) (i : Fin 64) (r : Fin 16) (hr : r.val = i.val / 4) (l l' : Fin 128) (b : ℕ) (hb : b < 8) :
    (IntOp.ori (bitcast S16x128 32 x h (ix2 r l)) (IntOp.shli ArithUnit.vector (bitcast S16x128 32 y h (ix2 r l')) 4#32)).getLsbD
      (8 * (i.val % 4) + b) = (pk (x (ix2 i l)) (y (ix2 i l'))).getLsbD b := by
  have hq : 8 * (i.val % 4) + b < 32 := by omega
  have es : IntOp.shli ArithUnit.vector (bitcast S16x128 32 y h (ix2 r l')) 4#32 = (bitcast S16x128 32 y h (ix2 r l')) <<< 4 := by
    simp [IntOp.shli]
  rw [es]
  unfold IntOp.ori pk
  rw [BitVec.getLsbD_or, BitVec.getLsbD_or, BitVec.getLsbD_shiftLeft, BitVec.getLsbD_shiftLeft,
    w8_at x h r l _ hq i (by omega), show (8 * (i.val % 4) + b) % 8 = b by omega]
  congr 1
  by_cases h4 : b < 4
  · by_cases h0 : i.val % 4 = 0
    · simp [h0, h4]
    · rw [w8_at y h r l' _ (by omega) ⟨i.val - 1, by omega⟩ (by show i.val - 1 = _; omega),
        high_zero _ (hy _ _) _ (by omega)]
      simp [h4]
  · rw [w8_at y h r l' _ (by omega) i (by omega), show (8 * (i.val % 4) + b - 4) % 8 = b - 4 by omega]
    simp [hb, hq, h4, show ¬ 8 * (i.val % 4) + b < 4 by omega]

/-- The stored codes: two to a byte. -/
def PK (va vb : Vec Ideal S64x128 .bf16) : IVec S64x128 8 :=
  k0_pay34 (k0_pay32 (k0_pay13 (k0_pay8 va)) (k0_pay21 (k0_pay18 vb))) k0_pay33

/-- A code as a byte. -/
def codeB (v : Fin 128 → EReal) (k : Fin 128) : BitVec 8 := (codeW v k).setWidth 8

theorem codeB_le (v : Fin 128 → EReal) (k : Fin 128) : (codeB v k).toNat ≤ 15 := by
  have := codeW_le v k
  rw [codeB, BitVec.toNat_setWidth]
  exact (Nat.mod_le _ _).trans this

theorem pay13_at (v : Vec Ideal S64x128 .bf16) (i : Fin 64) (k : Fin 128) :
    k0_pay13 (k0_pay8 v) (ix2 i k) = codeB (grow v i) k := by
  unfold k0_pay13
  pointwise [pay8_at]
  rfl

theorem pay21_at (v : Vec Ideal S64x128 .bf16) (i : Fin 64) (k : Fin 128) :
    k0_pay21 (k0_pay18 v) (ix2 i k) = codeB (grow v i) k := pay13_at v i k

/-- The lane the gather reads. -/
theorem pay33_at (r : Fin 16) (l : Fin 128) :
    shapeCast S16x128 k0_pay33 shapeCasts_S16x128x1_S16x128 (ix2 r l) = BitVec.ofNat 32 (2 * (l.val % 64) + l.val / 64) := by
  unfold k0_pay33
  pointwise
  clear r
  revert l
  decide +kernel

theorem pay32_even (x y : IVec S64x128 8) (r : Fin 16) (l : Fin 128) (hl : l.val % 2 = 0) :
    k0_pay32 x y (ix2 r l) = IntOp.ori (bitcast S16x128 32 x bitcasts_S64x128_w8_S16x128_w32 (ix2 r l))
      (IntOp.shli ArithUnit.vector (bitcast S16x128 32 x bitcasts_S64x128_w8_S16x128_w32 (ix2 r ⟨l.val + 1, by omega⟩)) 4#32) := by
  unfold k0_pay32
  pointwise
  rw [par_zero l hl]
  refine congrArg (fun k => IntOp.ori _ (IntOp.shli ArithUnit.vector (bitcast S16x128 32 x bitcasts_S64x128_w8_S16x128_w32 (ix2 r k)) 4#32)) (Fin.ext ?_)
  show (l.val + 128 - 127) % 128 = l.val + 1
  omega

theorem pay32_odd (x y : IVec S64x128 8) (r : Fin 16) (l : Fin 128) (hl : l.val % 2 = 1) :
    k0_pay32 x y (ix2 r l) = IntOp.ori (bitcast S16x128 32 y bitcasts_S64x128_w8_S16x128_w32 (ix2 r ⟨l.val - 1, by omega⟩))
      (IntOp.shli ArithUnit.vector (bitcast S16x128 32 y bitcasts_S64x128_w8_S16x128_w32 (ix2 r l)) 4#32) := by
  unfold k0_pay32
  pointwise
  rw [par_one l hl]
  refine congrArg (fun k => IntOp.ori (bitcast S16x128 32 y bitcasts_S64x128_w8_S16x128_w32 (ix2 r k)) _) (Fin.ext ?_)
  show (l.val + 128 - 1) % 128 = l.val - 1
  omega

theorem PK_at (va vb : Vec Ideal S64x128 .bf16) (i : Fin 64) (l : Fin 128) :
    PK va vb (ix2 i l) = if l.val < 64 then pk (codeB (grow va i) ⟨2 * (l.val % 64), by omega⟩) (codeB (grow va i) ⟨2 * (l.val % 64) + 1, by omega⟩)
      else pk (codeB (grow vb i) ⟨2 * (l.val % 64), by omega⟩) (codeB (grow vb i) ⟨2 * (l.val % 64) + 1, by omega⟩) := by
  unfold PK k0_pay34
  apply BitVec.eq_of_getLsbD_eq
  intro b hb
  rw [bytes_at _ _ _ _ _ hb]
  have hd : ∀ z : IVec S16x128 32, dynamicGather 1 z (shapeCast S16x128 k0_pay33 shapeCasts_S16x128x1_S16x128) (ix2 (⟨i.val / 4, by omega⟩ : Fin 16) l)
      = z (ix2 ⟨i.val / 4, by omega⟩ ⟨2 * (l.val % 64) + l.val / 64, by omega⟩) := by
    intro z
    pointwise [pay33_at]
    refine congrArg (fun k => z (ix2 _ k)) (Fin.ext ?_)
    show (BitVec.ofNat 32 (2 * (l.val % 64) + l.val / 64)).toNat % 128 = _
    rw [BitVec.toNat_ofNat]
    show _ = 2 * (l.val % 64) + l.val / 64
    omega
  rw [hd]
  by_cases h : l.val < 64
  · rw [if_pos h, pay32_even _ _ _ _ (by show (2 * (l.val % 64) + l.val / 64) % 2 = 0; omega),
      pk_word _ _ (fun i l => by rw [pay13_at]; exact codeB_le _ _) _ i _ rfl _ _ b hb, pay13_at, pay13_at]
    congr 3 <;> apply Fin.ext <;> (show _ = _) <;> dsimp only <;> omega
  · rw [if_neg h, pay32_odd _ _ _ _ (by show (2 * (l.val % 64) + l.val / 64) % 2 = 1; omega),
      pk_word _ _ (fun i l => by rw [pay21_at]; exact codeB_le _ _) _ i _ rfl _ _ b hb, pay21_at, pay21_at]
    congr 3 <;> apply Fin.ext <;> (show _ = _) <;> dsimp only <;> omega

end Cert.Proof

end
-- ==== Proof.Q1.lean ====
/- The quantising kernel's body on one block of rows: each result's block, read at an index. -/
module

public import proofs.«01_k».proof.Proof.Gen.KernelIdeal.Frame
public import proofs.«01_k».proof.Proof.Q0

@[expose] public section

set_option maxRecDepth 16384

noncomputable section

namespace Cert.Proof

open Idealize.ShloMosaic Cert.KernelIdeal Cert.KernelIdeal.Gen

/-- Group `g` of a row. -/
def grp (w : Fin 6144 → EReal) (g : Fin 48) : Fin 128 → EReal := fun k => w ⟨128 * g.val + k.val, by omega⟩

/-- Row `i` of a block of rows. -/
def brow (x0 : Vec Ideal S64x6144 .bf16) (i : Fin 64) : Fin 6144 → EReal := fun k => x0 (ix2 i k)

/-- The group, and the element of it, that the operand of the product holds in column `c`. -/
def gOf (c : Fin 6144) : Fin 48 := ⟨2 * (c.val / 256) + (c.val / 32 + c.val / 128) % 2, by omega⟩
def eOf (c : Fin 6144) : Fin 128 := ⟨4 * (c.val % 32) + 2 * (c.val / 128 % 2) + c.val % 128 / 64, by omega⟩

/-- The operand of the product. -/
def opVal (w : Fin 6144 → EReal) (c : Fin 6144) : EReal := act (grp w (gOf c)) (eOf c)

/-- The stored codes. -/
def pkVal (w : Fin 6144 → EReal) (j : Fin 3072) : BitVec 8 :=
  pk (codeB (grp w ⟨j.val / 64, by omega⟩) ⟨2 * (j.val % 64), by omega⟩) (codeB (grp w ⟨j.val / 64, by omega⟩) ⟨2 * (j.val % 64) + 1, by omega⟩)

/-- The zero point as a byte. -/
def zpB (v : Fin 128 → EReal) : BitVec 8 := (zpW v).setWidth 8

/-- A group loaded from the block of rows. -/
theorem grow_ld (x0 : Vec Ideal S64x6144 .bf16) (a : ℕ) (h : ∀ k, (![0, a] : Fin 2 → ℕ) k + S64x128.size k ≤ S64x6144.size k) (g : Fin 48)
    (hg : a = 128 * g.val) (i : Fin 64) :
    grow (View.ld x0 (Rect.unit (s := S64x6144) ![0, a] S64x128.size h)) i = grp (brow x0 i) g := by
  funext k
  unfold grow grp brow
  refine congrArg x0 (funext fun b => ?_)
  match b with
  | ⟨0, _⟩ => exact Fin.ext (by show 0 + 1 * i.val = i.val; omega)
  | ⟨1, _⟩ => exact Fin.ext (by show a + 1 * k.val = 128 * g.val + k.val; omega)

theorem lo_piece (x0 : Vec Ideal S64x6144 .bf16) (p : ℕ) (hp : p < 24)
    (ha : ∀ k, (![0, 256 * p] : Fin 2 → ℕ) k + S64x128.size k ≤ S64x6144.size k)
    (hb : ∀ k, (![0, 256 * p + 128] : Fin 2 → ℕ) k + S64x128.size k ≤ S64x6144.size k) (x : S64x128.Idx) :
    opLo (View.ld x0 (Rect.unit (s := S64x6144) ![0, 256 * p] S64x128.size ha)) (View.ld x0 (Rect.unit (s := S64x6144) ![0, 256 * p + 128] S64x128.size hb)) x
      = (fun y : S64x6144.Idx => opVal (brow x0 (y 0)) (y 1)) ((Rect.unit (s := S64x6144) ![0, 256 * p] S64x128.size ha).emb x) := by
  obtain ⟨i, l, rfl⟩ : ∃ (i : Fin 64) (l : Fin 128), x = ix2 i l := ⟨x 0, x 1, eq_ix2 x⟩
  refine (opLo_at _ _ i l).trans ?_
  rw [grow_ld x0 _ ha ⟨2 * p, by omega⟩ (by show _ = 128 * (2 * p); omega), grow_ld x0 _ hb ⟨2 * p + 1, by omega⟩ (by show _ = 128 * (2 * p + 1); omega)]
  have e0 : (((Rect.unit (s := S64x6144) ![0, 256 * p] S64x128.size ha).emb (ix2 i l)) 0 : Fin 64) = i := Fin.ext (by show 0 + 1 * i.val = _; omega)
  have e1 : (((Rect.unit (s := S64x6144) ![0, 256 * p] S64x128.size ha).emb (ix2 i l)) 1 : Fin 6144) = (⟨256 * p + l.val, by omega⟩ : Fin 6144) := Fin.ext (by show 256 * p + 1 * l.val = 256 * p + l.val; omega)
  show _ = opVal (brow x0 ((Rect.unit (s := S64x6144) ![0, 256 * p] S64x128.size ha).emb (ix2 i l) 0)) ((Rect.unit (s := S64x6144) ![0, 256 * p] S64x128.size ha).emb (ix2 i l) 1)
  rw [e0, e1]
  unfold opVal
  have ek : kLo l = eOf ⟨256 * p + l.val, by omega⟩ := Fin.ext (by show 4 * (l.val % 32) + l.val / 64 = 4 * ((256 * p + l.val) % 32) + 2 * ((256 * p + l.val) / 128 % 2) + (256 * p + l.val) % 128 / 64; omega)
  rw [ek]
  split_ifs with h
  · rw [show gOf ⟨256 * p + l.val, by omega⟩ = ⟨2 * p, by omega⟩ from Fin.ext (by show 2 * ((256 * p + l.val) / 256) + ((256 * p + l.val) / 32 + (256 * p + l.val) / 128) % 2 = 2 * p; omega)]
  · rw [show gOf ⟨256 * p + l.val, by omega⟩ = ⟨2 * p + 1, by omega⟩ from Fin.ext (by show 2 * ((256 * p + l.val) / 256) + ((256 * p + l.val) / 32 + (256 * p + l.val) / 128) % 2 = 2 * p + 1; omega)]

theorem hi_piece (x0 : Vec Ideal S64x6144 .bf16) (p : ℕ) (hp : p < 24)
    (ha : ∀ k, (![0, 256 * p] : Fin 2 → ℕ) k + S64x128.size k ≤ S64x6144.size k)
    (hb : ∀ k, (![0, 256 * p + 128] : Fin 2 → ℕ) k + S64x128.size k ≤ S64x6144.size k) (x : S64x128.Idx) :
    opHi (View.ld x0 (Rect.unit (s := S64x6144) ![0, 256 * p] S64x128.size ha)) (View.ld x0 (Rect.unit (s := S64x6144) ![0, 256 * p + 128] S64x128.size hb)) x
      = (fun y : S64x6144.Idx => opVal (brow x0 (y 0)) (y 1)) ((Rect.unit (s := S64x6144) ![0, 256 * p + 128] S64x128.size hb).emb x) := by
  obtain ⟨i, l, rfl⟩ : ∃ (i : Fin 64) (l : Fin 128), x = ix2 i l := ⟨x 0, x 1, eq_ix2 x⟩
  refine (opHi_at _ _ i l).trans ?_
  rw [grow_ld x0 _ ha ⟨2 * p, by omega⟩ (by show _ = 128 * (2 * p); omega), grow_ld x0 _ hb ⟨2 * p + 1, by omega⟩ (by show _ = 128 * (2 * p + 1); omega)]
  have e0 : (((Rect.unit (s := S64x6144) ![0, 256 * p + 128] S64x128.size hb).emb (ix2 i l)) 0 : Fin 64) = i := Fin.ext (by show 0 + 1 * i.val = _; omega)
  have e1 : (((Rect.unit (s := S64x6144) ![0, 256 * p + 128] S64x128.size hb).emb (ix2 i l)) 1 : Fin 6144) = (⟨256 * p + 128 + l.val, by omega⟩ : Fin 6144) := Fin.ext (by show 256 * p + 128 + 1 * l.val = 256 * p + 128 + l.val; omega)
  show _ = opVal (brow x0 ((Rect.unit (s := S64x6144) ![0, 256 * p + 128] S64x128.size hb).emb (ix2 i l) 0)) ((Rect.unit (s := S64x6144) ![0, 256 * p + 128] S64x128.size hb).emb (ix2 i l) 1)
  rw [e0, e1]
  unfold opVal
  have ek : kHi l = eOf ⟨256 * p + 128 + l.val, by omega⟩ := Fin.ext (by show 4 * (l.val % 32) + 2 + l.val / 64 = 4 * ((256 * p + 128 + l.val) % 32) + 2 * ((256 * p + 128 + l.val) / 128 % 2) + (256 * p + 128 + l.val) % 128 / 64; omega)
  rw [ek]
  split_ifs with h
  · rw [show gOf ⟨256 * p + 128 + l.val, by omega⟩ = ⟨2 * p + 1, by omega⟩ from Fin.ext (by show 2 * ((256 * p + 128 + l.val) / 256) + ((256 * p + 128 + l.val) / 32 + (256 * p + 128 + l.val) / 128) % 2 = 2 * p + 1; omega)]
  · rw [show gOf ⟨256 * p + 128 + l.val, by omega⟩ = ⟨2 * p, by omega⟩ from Fin.ext (by show 2 * ((256 * p + 128 + l.val) / 256) + ((256 * p + 128 + l.val) / 32 + (256 * p + 128 + l.val) / 128) % 2 = 2 * p; omega)]

theorem pk_piece (x0 : Vec Ideal S64x6144 .bf16) (p : ℕ) (hp : p < 24)
    (ha : ∀ k, (![0, 256 * p] : Fin 2 → ℕ) k + S64x128.size k ≤ S64x6144.size k)
    (hb : ∀ k, (![0, 256 * p + 128] : Fin 2 → ℕ) k + S64x128.size k ≤ S64x6144.size k)
    (hc : ∀ k, (![0, 128 * p] : Fin 2 → ℕ) k + S64x128.size k ≤ S64x3072.size k) (x : S64x128.Idx) :
    PK (View.ld x0 (Rect.unit (s := S64x6144) ![0, 256 * p] S64x128.size ha)) (View.ld x0 (Rect.unit (s := S64x6144) ![0, 256 * p + 128] S64x128.size hb)) x
      = (fun y : S64x3072.Idx => pkVal (brow x0 (y 0)) (y 1)) ((Rect.unit (s := S64x3072) ![0, 128 * p] S64x128.size hc).emb x) := by
  obtain ⟨i, l, rfl⟩ : ∃ (i : Fin 64) (l : Fin 128), x = ix2 i l := ⟨x 0, x 1, eq_ix2 x⟩
  refine (PK_at _ _ i l).trans ?_
  rw [grow_ld x0 _ ha ⟨2 * p, by omega⟩ (by show _ = 128 * (2 * p); omega), grow_ld x0 _ hb ⟨2 * p + 1, by omega⟩ (by show _ = 128 * (2 * p + 1); omega)]
  have e0 : (((Rect.unit (s := S64x3072) ![0, 128 * p] S64x128.size hc).emb (ix2 i l)) 0 : Fin 64) = i := Fin.ext (by show 0 + 1 * i.val = _; omega)
  have e1 : (((Rect.unit (s := S64x3072) ![0, 128 * p] S64x128.size hc).emb (ix2 i l)) 1 : Fin 3072) = (⟨128 * p + l.val, by omega⟩ : Fin 3072) := Fin.ext (by show 128 * p + 1 * l.val = 128 * p + l.val; omega)
  show _ = pkVal (brow x0 ((Rect.unit (s := S64x3072) ![0, 128 * p] S64x128.size hc).emb (ix2 i l) 0)) ((Rect.unit (s := S64x3072) ![0, 128 * p] S64x128.size hc).emb (ix2 i l) 1)
  rw [e0, e1]
  unfold pkVal
  have em : (128 * p + l.val) % 64 = l.val % 64 := by omega
  simp only [em]
  split_ifs with h
  · have eg : (128 * p + l.val) / 64 = 2 * p := by omega
    simp only [eg]
  · have eg : (128 * p + l.val) / 64 = 2 * p + 1 := by omega
    simp only [eg]

/-- The operand's block. -/
theorem out1_at (x0 : Vec Ideal S64x6144 .bf16) (i : Fin 64) (c : Fin 6144) : out0_1 x0 (ix2 i c) = opVal (brow x0 i) c := by
  refine View.canon_apply_of_pieces (Val := Elt Ideal) (e := .bf16) (fun y : S64x6144.Idx => (opVal (brow x0 (y 0)) (y 1) : EReal)) _ ?_ (ix2 i c) (cover0_1 _ _ _ _ _ _ _ _ _ _ _ _ _ _ _ _ _ _ _ _ _ _ _ _ _ _ _ _ _ _ _ _ _ _ _ _ _ _ _ _ _ _ _ _ _ _ _ _ _)
  refine List.forall_mem_cons.2 ⟨fun x => hi_piece x0 23 (by omega) inb_S64x6144_S64x128_0_5888 inb_S64x6144_S64x128_0_6016 x, ?_⟩
  refine List.forall_mem_cons.2 ⟨fun x => lo_piece x0 23 (by omega) inb_S64x6144_S64x128_0_5888 inb_S64x6144_S64x128_0_6016 x, ?_⟩
  refine List.forall_mem_cons.2 ⟨fun x => hi_piece x0 22 (by omega) inb_S64x6144_S64x128_0_5632 inb_S64x6144_S64x128_0_5760 x, ?_⟩
  refine List.forall_mem_cons.2 ⟨fun x => lo_piece x0 22 (by omega) inb_S64x6144_S64x128_0_5632 inb_S64x6144_S64x128_0_5760 x, ?_⟩
  refine List.forall_mem_cons.2 ⟨fun x => hi_piece x0 21 (by omega) inb_S64x6144_S64x128_0_5376 inb_S64x6144_S64x128_0_5504 x, ?_⟩
  refine List.forall_mem_cons.2 ⟨fun x => lo_piece x0 21 (by omega) inb_S64x6144_S64x128_0_5376 inb_S64x6144_S64x128_0_5504 x, ?_⟩
  refine List.forall_mem_cons.2 ⟨fun x => hi_piece x0 20 (by omega) inb_S64x6144_S64x128_0_5120 inb_S64x6144_S64x128_0_5248 x, ?_⟩
  refine List.forall_mem_cons.2 ⟨fun x => lo_piece x0 20 (by omega) inb_S64x6144_S64x128_0_5120 inb_S64x6144_S64x128_0_5248 x, ?_⟩
  refine List.forall_mem_cons.2 ⟨fun x => hi_piece x0 19 (by omega) inb_S64x6144_S64x128_0_4864 inb_S64x6144_S64x128_0_4992 x, ?_⟩
  refine List.forall_mem_cons.2 ⟨fun x => lo_piece x0 19 (by omega) inb_S64x6144_S64x128_0_4864 inb_S64x6144_S64x128_0_4992 x, ?_⟩
  refine List.forall_mem_cons.2 ⟨fun x => hi_piece x0 18 (by omega) inb_S64x6144_S64x128_0_4608 inb_S64x6144_S64x128_0_4736 x, ?_⟩
  refine List.forall_mem_cons.2 ⟨fun x => lo_piece x0 18 (by omega) inb_S64x6144_S64x128_0_4608 inb_S64x6144_S64x128_0_4736 x, ?_⟩
  refine List.forall_mem_cons.2 ⟨fun x => hi_piece x0 17 (by omega) inb_S64x6144_S64x128_0_4352 inb_S64x6144_S64x128_0_4480 x, ?_⟩
  refine List.forall_mem_cons.2 ⟨fun x => lo_piece x0 17 (by omega) inb_S64x6144_S64x128_0_4352 inb_S64x6144_S64x128_0_4480 x, ?_⟩
  refine List.forall_mem_cons.2 ⟨fun x => hi_piece x0 16 (by omega) inb_S64x6144_S64x128_0_4096 inb_S64x6144_S64x128_0_4224 x, ?_⟩
  refine List.forall_mem_cons.2 ⟨fun x => lo_piece x0 16 (by omega) inb_S64x6144_S64x128_0_4096 inb_S64x6144_S64x128_0_4224 x, ?_⟩
  refine List.forall_mem_cons.2 ⟨fun x => hi_piece x0 15 (by omega) inb_S64x6144_S64x128_0_3840 inb_S64x6144_S64x128_0_3968 x, ?_⟩
  refine List.forall_mem_cons.2 ⟨fun x => lo_piece x0 15 (by omega) inb_S64x6144_S64x128_0_3840 inb_S64x6144_S64x128_0_3968 x, ?_⟩
  refine List.forall_mem_cons.2 ⟨fun x => hi_piece x0 14 (by omega) inb_S64x6144_S64x128_0_3584 inb_S64x6144_S64x128_0_3712 x, ?_⟩
  refine List.forall_mem_cons.2 ⟨fun x => lo_piece x0 14 (by omega) inb_S64x6144_S64x128_0_3584 inb_S64x6144_S64x128_0_3712 x, ?_⟩
  refine List.forall_mem_cons.2 ⟨fun x => hi_piece x0 13 (by omega) inb_S64x6144_S64x128_0_3328 inb_S64x6144_S64x128_0_3456 x, ?_⟩
  refine List.forall_mem_cons.2 ⟨fun x => lo_piece x0 13 (by omega) inb_S64x6144_S64x128_0_3328 inb_S64x6144_S64x128_0_3456 x, ?_⟩
  refine List.forall_mem_cons.2 ⟨fun x => hi_piece x0 12 (by omega) inb_S64x6144_S64x128_0_3072 inb_S64x6144_S64x128_0_3200 x, ?_⟩
  refine List.forall_mem_cons.2 ⟨fun x => lo_piece x0 12 (by omega) inb_S64x6144_S64x128_0_3072 inb_S64x6144_S64x128_0_3200 x, ?_⟩
  refine List.forall_mem_cons.2 ⟨fun x => hi_piece x0 11 (by omega) inb_S64x6144_S64x128_0_2816 inb_S64x6144_S64x128_0_2944 x, ?_⟩
  refine List.forall_mem_cons.2 ⟨fun x => lo_piece x0 11 (by omega) inb_S64x6144_S64x128_0_2816 inb_S64x6144_S64x128_0_2944 x, ?_⟩
  refine List.forall_mem_cons.2 ⟨fun x => hi_piece x0 10 (by omega) inb_S64x6144_S64x128_0_2560 inb_S64x6144_S64x128_0_2688 x, ?_⟩
  refine List.forall_mem_cons.2 ⟨fun x => lo_piece x0 10 (by omega) inb_S64x6144_S64x128_0_2560 inb_S64x6144_S64x128_0_2688 x, ?_⟩
  refine List.forall_mem_cons.2 ⟨fun x => hi_piece x0 9 (by omega) inb_S64x6144_S64x128_0_2304 inb_S64x6144_S64x128_0_2432 x, ?_⟩
  refine List.forall_mem_cons.2 ⟨fun x => lo_piece x0 9 (by omega) inb_S64x6144_S64x128_0_2304 inb_S64x6144_S64x128_0_2432 x, ?_⟩
  refine List.forall_mem_cons.2 ⟨fun x => hi_piece x0 8 (by omega) inb_S64x6144_S64x128_0_2048 inb_S64x6144_S64x128_0_2176 x, ?_⟩
  refine List.forall_mem_cons.2 ⟨fun x => lo_piece x0 8 (by omega) inb_S64x6144_S64x128_0_2048 inb_S64x6144_S64x128_0_2176 x, ?_⟩
  refine List.forall_mem_cons.2 ⟨fun x => hi_piece x0 7 (by omega) inb_S64x6144_S64x128_0_1792 inb_S64x6144_S64x128_0_1920 x, ?_⟩
  refine List.forall_mem_cons.2 ⟨fun x => lo_piece x0 7 (by omega) inb_S64x6144_S64x128_0_1792 inb_S64x6144_S64x128_0_1920 x, ?_⟩
  refine List.forall_mem_cons.2 ⟨fun x => hi_piece x0 6 (by omega) inb_S64x6144_S64x128_0_1536 inb_S64x6144_S64x128_0_1664 x, ?_⟩
  refine List.forall_mem_cons.2 ⟨fun x => lo_piece x0 6 (by omega) inb_S64x6144_S64x128_0_1536 inb_S64x6144_S64x128_0_1664 x, ?_⟩
  refine List.forall_mem_cons.2 ⟨fun x => hi_piece x0 5 (by omega) inb_S64x6144_S64x128_0_1280 inb_S64x6144_S64x128_0_1408 x, ?_⟩
  refine List.forall_mem_cons.2 ⟨fun x => lo_piece x0 5 (by omega) inb_S64x6144_S64x128_0_1280 inb_S64x6144_S64x128_0_1408 x, ?_⟩
  refine List.forall_mem_cons.2 ⟨fun x => hi_piece x0 4 (by omega) inb_S64x6144_S64x128_0_1024 inb_S64x6144_S64x128_0_1152 x, ?_⟩
  refine List.forall_mem_cons.2 ⟨fun x => lo_piece x0 4 (by omega) inb_S64x6144_S64x128_0_1024 inb_S64x6144_S64x128_0_1152 x, ?_⟩
  refine List.forall_mem_cons.2 ⟨fun x => hi_piece x0 3 (by omega) inb_S64x6144_S64x128_0_768 inb_S64x6144_S64x128_0_896 x, ?_⟩
  refine List.forall_mem_cons.2 ⟨fun x => lo_piece x0 3 (by omega) inb_S64x6144_S64x128_0_768 inb_S64x6144_S64x128_0_896 x, ?_⟩
  refine List.forall_mem_cons.2 ⟨fun x => hi_piece x0 2 (by omega) inb_S64x6144_S64x128_0_512 inb_S64x6144_S64x128_0_640 x, ?_⟩
  refine List.forall_mem_cons.2 ⟨fun x => lo_piece x0 2 (by omega) inb_S64x6144_S64x128_0_512 inb_S64x6144_S64x128_0_640 x, ?_⟩
  refine List.forall_mem_cons.2 ⟨fun x => hi_piece x0 1 (by omega) inb_S64x6144_S64x128_0_256 inb_S64x6144_S64x128_0_384 x, ?_⟩
  refine List.forall_mem_cons.2 ⟨fun x => lo_piece x0 1 (by omega) inb_S64x6144_S64x128_0_256 inb_S64x6144_S64x128_0_384 x, ?_⟩
  refine List.forall_mem_cons.2 ⟨fun x => hi_piece x0 0 (by omega) inb_S64x6144_S64x128_0_0 inb_S64x6144_S64x128_0_128 x, ?_⟩
  refine List.forall_mem_cons.2 ⟨fun x => lo_piece x0 0 (by omega) inb_S64x6144_S64x128_0_0 inb_S64x6144_S64x128_0_128 x, ?_⟩
  exact List.forall_mem_nil _

/-- The block of codes. -/
theorem out2_at (x0 : Vec Ideal S64x6144 .bf16) (i : Fin 64) (j : Fin 3072) : out0_2 x0 (ix2 i j) = pkVal (brow x0 i) j := by
  refine View.canon_apply_of_pieces (Val := Elt Ideal) (e := .i8) (fun y : S64x3072.Idx => (pkVal (brow x0 (y 0)) (y 1) : BitVec 8)) _ ?_ (ix2 i j) (cover0_2 _ _ _ _ _ _ _ _ _ _ _ _ _ _ _ _ _ _ _ _ _ _ _ _ _)
  refine List.forall_mem_cons.2 ⟨fun x => pk_piece x0 23 (by omega) inb_S64x6144_S64x128_0_5888 inb_S64x6144_S64x128_0_6016 inb_S64x3072_S64x128_0_2944 x, ?_⟩
  refine List.forall_mem_cons.2 ⟨fun x => pk_piece x0 22 (by omega) inb_S64x6144_S64x128_0_5632 inb_S64x6144_S64x128_0_5760 inb_S64x3072_S64x128_0_2816 x, ?_⟩
  refine List.forall_mem_cons.2 ⟨fun x => pk_piece x0 21 (by omega) inb_S64x6144_S64x128_0_5376 inb_S64x6144_S64x128_0_5504 inb_S64x3072_S64x128_0_2688 x, ?_⟩
  refine List.forall_mem_cons.2 ⟨fun x => pk_piece x0 20 (by omega) inb_S64x6144_S64x128_0_5120 inb_S64x6144_S64x128_0_5248 inb_S64x3072_S64x128_0_2560 x, ?_⟩
  refine List.forall_mem_cons.2 ⟨fun x => pk_piece x0 19 (by omega) inb_S64x6144_S64x128_0_4864 inb_S64x6144_S64x128_0_4992 inb_S64x3072_S64x128_0_2432 x, ?_⟩
  refine List.forall_mem_cons.2 ⟨fun x => pk_piece x0 18 (by omega) inb_S64x6144_S64x128_0_4608 inb_S64x6144_S64x128_0_4736 inb_S64x3072_S64x128_0_2304 x, ?_⟩
  refine List.forall_mem_cons.2 ⟨fun x => pk_piece x0 17 (by omega) inb_S64x6144_S64x128_0_4352 inb_S64x6144_S64x128_0_4480 inb_S64x3072_S64x128_0_2176 x, ?_⟩
  refine List.forall_mem_cons.2 ⟨fun x => pk_piece x0 16 (by omega) inb_S64x6144_S64x128_0_4096 inb_S64x6144_S64x128_0_4224 inb_S64x3072_S64x128_0_2048 x, ?_⟩
  refine List.forall_mem_cons.2 ⟨fun x => pk_piece x0 15 (by omega) inb_S64x6144_S64x128_0_3840 inb_S64x6144_S64x128_0_3968 inb_S64x3072_S64x128_0_1920 x, ?_⟩
  refine List.forall_mem_cons.2 ⟨fun x => pk_piece x0 14 (by omega) inb_S64x6144_S64x128_0_3584 inb_S64x6144_S64x128_0_3712 inb_S64x3072_S64x128_0_1792 x, ?_⟩
  refine List.forall_mem_cons.2 ⟨fun x => pk_piece x0 13 (by omega) inb_S64x6144_S64x128_0_3328 inb_S64x6144_S64x128_0_3456 inb_S64x3072_S64x128_0_1664 x, ?_⟩
  refine List.forall_mem_cons.2 ⟨fun x => pk_piece x0 12 (by omega) inb_S64x6144_S64x128_0_3072 inb_S64x6144_S64x128_0_3200 inb_S64x3072_S64x128_0_1536 x, ?_⟩
  refine List.forall_mem_cons.2 ⟨fun x => pk_piece x0 11 (by omega) inb_S64x6144_S64x128_0_2816 inb_S64x6144_S64x128_0_2944 inb_S64x3072_S64x128_0_1408 x, ?_⟩
  refine List.forall_mem_cons.2 ⟨fun x => pk_piece x0 10 (by omega) inb_S64x6144_S64x128_0_2560 inb_S64x6144_S64x128_0_2688 inb_S64x3072_S64x128_0_1280 x, ?_⟩
  refine List.forall_mem_cons.2 ⟨fun x => pk_piece x0 9 (by omega) inb_S64x6144_S64x128_0_2304 inb_S64x6144_S64x128_0_2432 inb_S64x3072_S64x128_0_1152 x, ?_⟩
  refine List.forall_mem_cons.2 ⟨fun x => pk_piece x0 8 (by omega) inb_S64x6144_S64x128_0_2048 inb_S64x6144_S64x128_0_2176 inb_S64x3072_S64x128_0_1024 x, ?_⟩
  refine List.forall_mem_cons.2 ⟨fun x => pk_piece x0 7 (by omega) inb_S64x6144_S64x128_0_1792 inb_S64x6144_S64x128_0_1920 inb_S64x3072_S64x128_0_896 x, ?_⟩
  refine List.forall_mem_cons.2 ⟨fun x => pk_piece x0 6 (by omega) inb_S64x6144_S64x128_0_1536 inb_S64x6144_S64x128_0_1664 inb_S64x3072_S64x128_0_768 x, ?_⟩
  refine List.forall_mem_cons.2 ⟨fun x => pk_piece x0 5 (by omega) inb_S64x6144_S64x128_0_1280 inb_S64x6144_S64x128_0_1408 inb_S64x3072_S64x128_0_640 x, ?_⟩
  refine List.forall_mem_cons.2 ⟨fun x => pk_piece x0 4 (by omega) inb_S64x6144_S64x128_0_1024 inb_S64x6144_S64x128_0_1152 inb_S64x3072_S64x128_0_512 x, ?_⟩
  refine List.forall_mem_cons.2 ⟨fun x => pk_piece x0 3 (by omega) inb_S64x6144_S64x128_0_768 inb_S64x6144_S64x128_0_896 inb_S64x3072_S64x128_0_384 x, ?_⟩
  refine List.forall_mem_cons.2 ⟨fun x => pk_piece x0 2 (by omega) inb_S64x6144_S64x128_0_512 inb_S64x6144_S64x128_0_640 inb_S64x3072_S64x128_0_256 x, ?_⟩
  refine List.forall_mem_cons.2 ⟨fun x => pk_piece x0 1 (by omega) inb_S64x6144_S64x128_0_256 inb_S64x6144_S64x128_0_384 inb_S64x3072_S64x128_0_128 x, ?_⟩
  refine List.forall_mem_cons.2 ⟨fun x => pk_piece x0 0 (by omega) inb_S64x6144_S64x128_0_0 inb_S64x6144_S64x128_0_128 inb_S64x3072_S64x128_0_0 x, ?_⟩
  exact List.forall_mem_nil _

/-! ## The scales and zero points, gathered lane by lane -/

/-- One more lane set. -/
def sStep (g : BitVec 32) (w : FVec Ideal S64x1 .f32) (acc : FVec Ideal S64x128 .f32) : FVec Ideal S64x128 .f32 :=
  select (cmpi .eq (iota .tc S64x128 32 [1] iota_S64x128_d1_w32) (broadcast S64x128 g))
    (broadcastTo S64x128 (shapeCast S64x1 w shapeCasts_S64x1_S64x1) broadcasts_S64x1_S64x128) acc

/-- The first `n` lanes hold the values `f` of their groups. -/
def Lanes (n : ℕ) (f : Fin 64 → Fin 48 → EReal) (acc : FVec Ideal S64x128 .f32) : Prop :=
  ∀ (i : Fin 64) (g : Fin 48), g.val < n → acc (ix2 i ⟨g.val, by omega⟩) = f i g

theorem step_ok (f : Fin 64 → Fin 48 → EReal) (n : ℕ) (hn : n < 48) (b : BitVec 32) (hb : b = BitVec.ofNat 32 n) (w : FVec Ideal S64x1 .f32)
    (acc : FVec Ideal S64x128 .f32) (hw : ∀ i : Fin 64, w (ix2 i 0) = f i ⟨n, hn⟩) (h : Lanes n f acc) : Lanes (n + 1) f (sStep b w acc) := by
  intro i g hg
  unfold sStep
  pointwise
  by_cases e : g.val = n
  · obtain rfl : g = ⟨n, hn⟩ := Fin.ext e
    subst hb
    show Scalar.select (IntOp.cmpi CmpIPredicate.eq (BitVec.ofNat 32 n) (BitVec.ofNat 32 n)) _ _ = _
    rw [show IntOp.cmpi CmpIPredicate.eq (BitVec.ofNat 32 n) (BitVec.ofNat 32 n) = 1#1 by simp [IntOp.cmpi]]
    exact hw i
  · subst hb
    show Scalar.select (IntOp.cmpi CmpIPredicate.eq (BitVec.ofNat 32 g.val) (BitVec.ofNat 32 n)) _ _ = _
    rw [show IntOp.cmpi CmpIPredicate.eq (BitVec.ofNat 32 g.val) (BitVec.ofNat 32 n) = 0#1 by
      have : BitVec.ofNat 32 g.val ≠ BitVec.ofNat 32 n := fun h => e (by
        have := congrArg BitVec.toNat h
        rw [BitVec.toNat_ofNat, BitVec.toNat_ofNat, Nat.mod_eq_of_lt (by omega), Nat.mod_eq_of_lt (by omega)] at this
        exact this)
      show BitVec.ofBool _ = _
      rw [beq_eq_false_iff_ne.2 this]; rfl]
    exact h i g (by omega)

theorem scale_piece (x0 : Vec Ideal S64x6144 .bf16) (g : ℕ) (hg : g < 48)
    (h : ∀ k, (![0, 128 * g] : Fin 2 → ℕ) k + S64x128.size k ≤ S64x6144.size k) (i : Fin 64) :
    k0_pay6 (View.ld x0 (Rect.unit (s := S64x6144) ![0, 128 * g] S64x128.size h)) (ix2 i 0) = scale (grp (brow x0 i) ⟨g, hg⟩) :=
  (pay6_at _ i 0).trans (congrArg scale (grow_ld x0 _ h ⟨g, hg⟩ rfl i))

theorem zp_piece (x0 : Vec Ideal S64x6144 .bf16) (g : ℕ) (hg : g < 48)
    (h : ∀ k, (![0, 128 * g] : Fin 2 → ℕ) k + S64x128.size k ≤ S64x6144.size k) (i : Fin 64) :
    k0_pay7 (View.ld x0 (Rect.unit (s := S64x6144) ![0, 128 * g] S64x128.size h)) (ix2 i 0) = zp (grp (brow x0 i) ⟨g, hg⟩) :=
  (pay7_at _ i 0).trans (congrArg zp (grow_ld x0 _ h ⟨g, hg⟩ rfl i))

/-- The lanes of scales. -/
def sAll (x0 : Vec Ideal S64x6144 .bf16) : FVec Ideal S64x128 .f32 :=
  (sStep 47#32 (k0_pay6 (View.ld x0 r0_70)) (sStep 46#32 (k0_pay6 (View.ld x0 r0_69)) (sStep 45#32 (k0_pay6 (View.ld x0 r0_67)) (sStep 44#32 (k0_pay6 (View.ld x0 r0_66)) (sStep 43#32 (k0_pay6 (View.ld x0 r0_64)) (sStep 42#32 (k0_pay6 (View.ld x0 r0_63)) (sStep 41#32 (k0_pay6 (View.ld x0 r0_61)) (sStep 40#32 (k0_pay6 (View.ld x0 r0_60)) (sStep 39#32 (k0_pay6 (View.ld x0 r0_58)) (sStep 38#32 (k0_pay6 (View.ld x0 r0_57)) (sStep 37#32 (k0_pay6 (View.ld x0 r0_55)) (sStep 36#32 (k0_pay6 (View.ld x0 r0_54)) (sStep 35#32 (k0_pay6 (View.ld x0 r0_52)) (sStep 34#32 (k0_pay6 (View.ld x0 r0_51)) (sStep 33#32 (k0_pay6 (View.ld x0 r0_49)) (sStep 32#32 (k0_pay6 (View.ld x0 r0_48)) (sStep 31#32 (k0_pay6 (View.ld x0 r0_46)) (sStep 30#32 (k0_pay6 (View.ld x0 r0_45)) (sStep 29#32 (k0_pay6 (View.ld x0 r0_43)) (sStep 28#32 (k0_pay6 (View.ld x0 r0_42)) (sStep 27#32 (k0_pay6 (View.ld x0 r0_40)) (sStep 26#32 (k0_pay6 (View.ld x0 r0_39)) (sStep 25#32 (k0_pay6 (View.ld x0 r0_37)) (sStep 24#32 (k0_pay6 (View.ld x0 r0_36)) (sStep 23#32 (k0_pay6 (View.ld x0 r0_34)) (sStep 22#32 (k0_pay6 (View.ld x0 r0_33)) (sStep 21#32 (k0_pay6 (View.ld x0 r0_31)) (sStep 20#32 (k0_pay6 (View.ld x0 r0_30)) (sStep 19#32 (k0_pay6 (View.ld x0 r0_28)) (sStep 18#32 (k0_pay6 (View.ld x0 r0_27)) (sStep 17#32 (k0_pay6 (View.ld x0 r0_25)) (sStep 16#32 (k0_pay6 (View.ld x0 r0_24)) (sStep 15#32 (k0_pay6 (View.ld x0 r0_22)) (sStep 14#32 (k0_pay6 (View.ld x0 r0_21)) (sStep 13#32 (k0_pay6 (View.ld x0 r0_19)) (sStep 12#32 (k0_pay6 (View.ld x0 r0_18)) (sStep 11#32 (k0_pay6 (View.ld x0 r0_16)) (sStep 10#32 (k0_pay6 (View.ld x0 r0_15)) (sStep 9#32 (k0_pay6 (View.ld x0 r0_13)) (sStep 8#32 (k0_pay6 (View.ld x0 r0_12)) (sStep 7#32 (k0_pay6 (View.ld x0 r0_10)) (sStep 6#32 (k0_pay6 (View.ld x0 r0_9)) (sStep 5#32 (k0_pay6 (View.ld x0 r0_7)) (sStep 4#32 (k0_pay6 (View.ld x0 r0_6)) (sStep 3#32 (k0_pay6 (View.ld x0 r0_4)) (sStep 2#32 (k0_pay6 (View.ld x0 r0_3)) (sStep 1#32 (k0_pay6 (View.ld x0 r0_1)) (sStep 0#32 (k0_pay6 (View.ld x0 r0_0)) (broadcast S64x128 (Scalar.ofBits .f32 0x00000000#32))))))))))))))))))))))))))))))))))))))))))))))))))

/-- The lanes of zero points. -/
def zAll (x0 : Vec Ideal S64x6144 .bf16) : FVec Ideal S64x128 .f32 :=
  (sStep 47#32 (k0_pay7 (View.ld x0 r0_70)) (sStep 46#32 (k0_pay7 (View.ld x0 r0_69)) (sStep 45#32 (k0_pay7 (View.ld x0 r0_67)) (sStep 44#32 (k0_pay7 (View.ld x0 r0_66)) (sStep 43#32 (k0_pay7 (View.ld x0 r0_64)) (sStep 42#32 (k0_pay7 (View.ld x0 r0_63)) (sStep 41#32 (k0_pay7 (View.ld x0 r0_61)) (sStep 40#32 (k0_pay7 (View.ld x0 r0_60)) (sStep 39#32 (k0_pay7 (View.ld x0 r0_58)) (sStep 38#32 (k0_pay7 (View.ld x0 r0_57)) (sStep 37#32 (k0_pay7 (View.ld x0 r0_55)) (sStep 36#32 (k0_pay7 (View.ld x0 r0_54)) (sStep 35#32 (k0_pay7 (View.ld x0 r0_52)) (sStep 34#32 (k0_pay7 (View.ld x0 r0_51)) (sStep 33#32 (k0_pay7 (View.ld x0 r0_49)) (sStep 32#32 (k0_pay7 (View.ld x0 r0_48)) (sStep 31#32 (k0_pay7 (View.ld x0 r0_46)) (sStep 30#32 (k0_pay7 (View.ld x0 r0_45)) (sStep 29#32 (k0_pay7 (View.ld x0 r0_43)) (sStep 28#32 (k0_pay7 (View.ld x0 r0_42)) (sStep 27#32 (k0_pay7 (View.ld x0 r0_40)) (sStep 26#32 (k0_pay7 (View.ld x0 r0_39)) (sStep 25#32 (k0_pay7 (View.ld x0 r0_37)) (sStep 24#32 (k0_pay7 (View.ld x0 r0_36)) (sStep 23#32 (k0_pay7 (View.ld x0 r0_34)) (sStep 22#32 (k0_pay7 (View.ld x0 r0_33)) (sStep 21#32 (k0_pay7 (View.ld x0 r0_31)) (sStep 20#32 (k0_pay7 (View.ld x0 r0_30)) (sStep 19#32 (k0_pay7 (View.ld x0 r0_28)) (sStep 18#32 (k0_pay7 (View.ld x0 r0_27)) (sStep 17#32 (k0_pay7 (View.ld x0 r0_25)) (sStep 16#32 (k0_pay7 (View.ld x0 r0_24)) (sStep 15#32 (k0_pay7 (View.ld x0 r0_22)) (sStep 14#32 (k0_pay7 (View.ld x0 r0_21)) (sStep 13#32 (k0_pay7 (View.ld x0 r0_19)) (sStep 12#32 (k0_pay7 (View.ld x0 r0_18)) (sStep 11#32 (k0_pay7 (View.ld x0 r0_16)) (sStep 10#32 (k0_pay7 (View.ld x0 r0_15)) (sStep 9#32 (k0_pay7 (View.ld x0 r0_13)) (sStep 8#32 (k0_pay7 (View.ld x0 r0_12)) (sStep 7#32 (k0_pay7 (View.ld x0 r0_10)) (sStep 6#32 (k0_pay7 (View.ld x0 r0_9)) (sStep 5#32 (k0_pay7 (View.ld x0 r0_7)) (sStep 4#32 (k0_pay7 (View.ld x0 r0_6)) (sStep 3#32 (k0_pay7 (View.ld x0 r0_4)) (sStep 2#32 (k0_pay7 (View.ld x0 r0_3)) (sStep 1#32 (k0_pay7 (View.ld x0 r0_1)) (sStep 0#32 (k0_pay7 (View.ld x0 r0_0)) (broadcast S64x128 (Scalar.ofBits .f32 0x00000000#32))))))))))))))))))))))))))))))))))))))))))))))))))

theorem out3_eq (x0 : Vec Ideal S64x6144 .bf16) : out0_3 x0 = View.canon [⟨r0_72, k0_pay2 (sAll x0)⟩] := rfl

theorem out4_eq (x0 : Vec Ideal S64x6144 .bf16) : out0_4 x0 = View.canon (Val := Elt Ideal) [⟨r0_72, k0_pay3 (zAll x0)⟩] := rfl

theorem sAll_ok (x0 : Vec Ideal S64x6144 .bf16) : Lanes 48 (fun i g => scale (grp (brow x0 i) g)) (sAll x0) := by
  unfold sAll
  refine step_ok _ 47 (by omega) _ rfl _ _ (fun i => scale_piece x0 47 (by omega) inb_S64x6144_S64x128_0_6016 i) ?_
  refine step_ok _ 46 (by omega) _ rfl _ _ (fun i => scale_piece x0 46 (by omega) inb_S64x6144_S64x128_0_5888 i) ?_
  refine step_ok _ 45 (by omega) _ rfl _ _ (fun i => scale_piece x0 45 (by omega) inb_S64x6144_S64x128_0_5760 i) ?_
  refine step_ok _ 44 (by omega) _ rfl _ _ (fun i => scale_piece x0 44 (by omega) inb_S64x6144_S64x128_0_5632 i) ?_
  refine step_ok _ 43 (by omega) _ rfl _ _ (fun i => scale_piece x0 43 (by omega) inb_S64x6144_S64x128_0_5504 i) ?_
  refine step_ok _ 42 (by omega) _ rfl _ _ (fun i => scale_piece x0 42 (by omega) inb_S64x6144_S64x128_0_5376 i) ?_
  refine step_ok _ 41 (by omega) _ rfl _ _ (fun i => scale_piece x0 41 (by omega) inb_S64x6144_S64x128_0_5248 i) ?_
  refine step_ok _ 40 (by omega) _ rfl _ _ (fun i => scale_piece x0 40 (by omega) inb_S64x6144_S64x128_0_5120 i) ?_
  refine step_ok _ 39 (by omega) _ rfl _ _ (fun i => scale_piece x0 39 (by omega) inb_S64x6144_S64x128_0_4992 i) ?_
  refine step_ok _ 38 (by omega) _ rfl _ _ (fun i => scale_piece x0 38 (by omega) inb_S64x6144_S64x128_0_4864 i) ?_
  refine step_ok _ 37 (by omega) _ rfl _ _ (fun i => scale_piece x0 37 (by omega) inb_S64x6144_S64x128_0_4736 i) ?_
  refine step_ok _ 36 (by omega) _ rfl _ _ (fun i => scale_piece x0 36 (by omega) inb_S64x6144_S64x128_0_4608 i) ?_
  refine step_ok _ 35 (by omega) _ rfl _ _ (fun i => scale_piece x0 35 (by omega) inb_S64x6144_S64x128_0_4480 i) ?_
  refine step_ok _ 34 (by omega) _ rfl _ _ (fun i => scale_piece x0 34 (by omega) inb_S64x6144_S64x128_0_4352 i) ?_
  refine step_ok _ 33 (by omega) _ rfl _ _ (fun i => scale_piece x0 33 (by omega) inb_S64x6144_S64x128_0_4224 i) ?_
  refine step_ok _ 32 (by omega) _ rfl _ _ (fun i => scale_piece x0 32 (by omega) inb_S64x6144_S64x128_0_4096 i) ?_
  refine step_ok _ 31 (by omega) _ rfl _ _ (fun i => scale_piece x0 31 (by omega) inb_S64x6144_S64x128_0_3968 i) ?_
  refine step_ok _ 30 (by omega) _ rfl _ _ (fun i => scale_piece x0 30 (by omega) inb_S64x6144_S64x128_0_3840 i) ?_
  refine step_ok _ 29 (by omega) _ rfl _ _ (fun i => scale_piece x0 29 (by omega) inb_S64x6144_S64x128_0_3712 i) ?_
  refine step_ok _ 28 (by omega) _ rfl _ _ (fun i => scale_piece x0 28 (by omega) inb_S64x6144_S64x128_0_3584 i) ?_
  refine step_ok _ 27 (by omega) _ rfl _ _ (fun i => scale_piece x0 27 (by omega) inb_S64x6144_S64x128_0_3456 i) ?_
  refine step_ok _ 26 (by omega) _ rfl _ _ (fun i => scale_piece x0 26 (by omega) inb_S64x6144_S64x128_0_3328 i) ?_
  refine step_ok _ 25 (by omega) _ rfl _ _ (fun i => scale_piece x0 25 (by omega) inb_S64x6144_S64x128_0_3200 i) ?_
  refine step_ok _ 24 (by omega) _ rfl _ _ (fun i => scale_piece x0 24 (by omega) inb_S64x6144_S64x128_0_3072 i) ?_
  refine step_ok _ 23 (by omega) _ rfl _ _ (fun i => scale_piece x0 23 (by omega) inb_S64x6144_S64x128_0_2944 i) ?_
  refine step_ok _ 22 (by omega) _ rfl _ _ (fun i => scale_piece x0 22 (by omega) inb_S64x6144_S64x128_0_2816 i) ?_
  refine step_ok _ 21 (by omega) _ rfl _ _ (fun i => scale_piece x0 21 (by omega) inb_S64x6144_S64x128_0_2688 i) ?_
  refine step_ok _ 20 (by omega) _ rfl _ _ (fun i => scale_piece x0 20 (by omega) inb_S64x6144_S64x128_0_2560 i) ?_
  refine step_ok _ 19 (by omega) _ rfl _ _ (fun i => scale_piece x0 19 (by omega) inb_S64x6144_S64x128_0_2432 i) ?_
  refine step_ok _ 18 (by omega) _ rfl _ _ (fun i => scale_piece x0 18 (by omega) inb_S64x6144_S64x128_0_2304 i) ?_
  refine step_ok _ 17 (by omega) _ rfl _ _ (fun i => scale_piece x0 17 (by omega) inb_S64x6144_S64x128_0_2176 i) ?_
  refine step_ok _ 16 (by omega) _ rfl _ _ (fun i => scale_piece x0 16 (by omega) inb_S64x6144_S64x128_0_2048 i) ?_
  refine step_ok _ 15 (by omega) _ rfl _ _ (fun i => scale_piece x0 15 (by omega) inb_S64x6144_S64x128_0_1920 i) ?_
  refine step_ok _ 14 (by omega) _ rfl _ _ (fun i => scale_piece x0 14 (by omega) inb_S64x6144_S64x128_0_1792 i) ?_
  refine step_ok _ 13 (by omega) _ rfl _ _ (fun i => scale_piece x0 13 (by omega) inb_S64x6144_S64x128_0_1664 i) ?_
  refine step_ok _ 12 (by omega) _ rfl _ _ (fun i => scale_piece x0 12 (by omega) inb_S64x6144_S64x128_0_1536 i) ?_
  refine step_ok _ 11 (by omega) _ rfl _ _ (fun i => scale_piece x0 11 (by omega) inb_S64x6144_S64x128_0_1408 i) ?_
  refine step_ok _ 10 (by omega) _ rfl _ _ (fun i => scale_piece x0 10 (by omega) inb_S64x6144_S64x128_0_1280 i) ?_
  refine step_ok _ 9 (by omega) _ rfl _ _ (fun i => scale_piece x0 9 (by omega) inb_S64x6144_S64x128_0_1152 i) ?_
  refine step_ok _ 8 (by omega) _ rfl _ _ (fun i => scale_piece x0 8 (by omega) inb_S64x6144_S64x128_0_1024 i) ?_
  refine step_ok _ 7 (by omega) _ rfl _ _ (fun i => scale_piece x0 7 (by omega) inb_S64x6144_S64x128_0_896 i) ?_
  refine step_ok _ 6 (by omega) _ rfl _ _ (fun i => scale_piece x0 6 (by omega) inb_S64x6144_S64x128_0_768 i) ?_
  refine step_ok _ 5 (by omega) _ rfl _ _ (fun i => scale_piece x0 5 (by omega) inb_S64x6144_S64x128_0_640 i) ?_
  refine step_ok _ 4 (by omega) _ rfl _ _ (fun i => scale_piece x0 4 (by omega) inb_S64x6144_S64x128_0_512 i) ?_
  refine step_ok _ 3 (by omega) _ rfl _ _ (fun i => scale_piece x0 3 (by omega) inb_S64x6144_S64x128_0_384 i) ?_
  refine step_ok _ 2 (by omega) _ rfl _ _ (fun i => scale_piece x0 2 (by omega) inb_S64x6144_S64x128_0_256 i) ?_
  refine step_ok _ 1 (by omega) _ rfl _ _ (fun i => scale_piece x0 1 (by omega) inb_S64x6144_S64x128_0_128 i) ?_
  refine step_ok _ 0 (by omega) _ rfl _ _ (fun i => scale_piece x0 0 (by omega) inb_S64x6144_S64x128_0_0 i) ?_
  exact fun i g h => absurd h (Nat.not_lt_zero _)

theorem zAll_ok (x0 : Vec Ideal S64x6144 .bf16) : Lanes 48 (fun i g => zp (grp (brow x0 i) g)) (zAll x0) := by
  unfold zAll
  refine step_ok _ 47 (by omega) _ rfl _ _ (fun i => zp_piece x0 47 (by omega) inb_S64x6144_S64x128_0_6016 i) ?_
  refine step_ok _ 46 (by omega) _ rfl _ _ (fun i => zp_piece x0 46 (by omega) inb_S64x6144_S64x128_0_5888 i) ?_
  refine step_ok _ 45 (by omega) _ rfl _ _ (fun i => zp_piece x0 45 (by omega) inb_S64x6144_S64x128_0_5760 i) ?_
  refine step_ok _ 44 (by omega) _ rfl _ _ (fun i => zp_piece x0 44 (by omega) inb_S64x6144_S64x128_0_5632 i) ?_
  refine step_ok _ 43 (by omega) _ rfl _ _ (fun i => zp_piece x0 43 (by omega) inb_S64x6144_S64x128_0_5504 i) ?_
  refine step_ok _ 42 (by omega) _ rfl _ _ (fun i => zp_piece x0 42 (by omega) inb_S64x6144_S64x128_0_5376 i) ?_
  refine step_ok _ 41 (by omega) _ rfl _ _ (fun i => zp_piece x0 41 (by omega) inb_S64x6144_S64x128_0_5248 i) ?_
  refine step_ok _ 40 (by omega) _ rfl _ _ (fun i => zp_piece x0 40 (by omega) inb_S64x6144_S64x128_0_5120 i) ?_
  refine step_ok _ 39 (by omega) _ rfl _ _ (fun i => zp_piece x0 39 (by omega) inb_S64x6144_S64x128_0_4992 i) ?_
  refine step_ok _ 38 (by omega) _ rfl _ _ (fun i => zp_piece x0 38 (by omega) inb_S64x6144_S64x128_0_4864 i) ?_
  refine step_ok _ 37 (by omega) _ rfl _ _ (fun i => zp_piece x0 37 (by omega) inb_S64x6144_S64x128_0_4736 i) ?_
  refine step_ok _ 36 (by omega) _ rfl _ _ (fun i => zp_piece x0 36 (by omega) inb_S64x6144_S64x128_0_4608 i) ?_
  refine step_ok _ 35 (by omega) _ rfl _ _ (fun i => zp_piece x0 35 (by omega) inb_S64x6144_S64x128_0_4480 i) ?_
  refine step_ok _ 34 (by omega) _ rfl _ _ (fun i => zp_piece x0 34 (by omega) inb_S64x6144_S64x128_0_4352 i) ?_
  refine step_ok _ 33 (by omega) _ rfl _ _ (fun i => zp_piece x0 33 (by omega) inb_S64x6144_S64x128_0_4224 i) ?_
  refine step_ok _ 32 (by omega) _ rfl _ _ (fun i => zp_piece x0 32 (by omega) inb_S64x6144_S64x128_0_4096 i) ?_
  refine step_ok _ 31 (by omega) _ rfl _ _ (fun i => zp_piece x0 31 (by omega) inb_S64x6144_S64x128_0_3968 i) ?_
  refine step_ok _ 30 (by omega) _ rfl _ _ (fun i => zp_piece x0 30 (by omega) inb_S64x6144_S64x128_0_3840 i) ?_
  refine step_ok _ 29 (by omega) _ rfl _ _ (fun i => zp_piece x0 29 (by omega) inb_S64x6144_S64x128_0_3712 i) ?_
  refine step_ok _ 28 (by omega) _ rfl _ _ (fun i => zp_piece x0 28 (by omega) inb_S64x6144_S64x128_0_3584 i) ?_
  refine step_ok _ 27 (by omega) _ rfl _ _ (fun i => zp_piece x0 27 (by omega) inb_S64x6144_S64x128_0_3456 i) ?_
  refine step_ok _ 26 (by omega) _ rfl _ _ (fun i => zp_piece x0 26 (by omega) inb_S64x6144_S64x128_0_3328 i) ?_
  refine step_ok _ 25 (by omega) _ rfl _ _ (fun i => zp_piece x0 25 (by omega) inb_S64x6144_S64x128_0_3200 i) ?_
  refine step_ok _ 24 (by omega) _ rfl _ _ (fun i => zp_piece x0 24 (by omega) inb_S64x6144_S64x128_0_3072 i) ?_
  refine step_ok _ 23 (by omega) _ rfl _ _ (fun i => zp_piece x0 23 (by omega) inb_S64x6144_S64x128_0_2944 i) ?_
  refine step_ok _ 22 (by omega) _ rfl _ _ (fun i => zp_piece x0 22 (by omega) inb_S64x6144_S64x128_0_2816 i) ?_
  refine step_ok _ 21 (by omega) _ rfl _ _ (fun i => zp_piece x0 21 (by omega) inb_S64x6144_S64x128_0_2688 i) ?_
  refine step_ok _ 20 (by omega) _ rfl _ _ (fun i => zp_piece x0 20 (by omega) inb_S64x6144_S64x128_0_2560 i) ?_
  refine step_ok _ 19 (by omega) _ rfl _ _ (fun i => zp_piece x0 19 (by omega) inb_S64x6144_S64x128_0_2432 i) ?_
  refine step_ok _ 18 (by omega) _ rfl _ _ (fun i => zp_piece x0 18 (by omega) inb_S64x6144_S64x128_0_2304 i) ?_
  refine step_ok _ 17 (by omega) _ rfl _ _ (fun i => zp_piece x0 17 (by omega) inb_S64x6144_S64x128_0_2176 i) ?_
  refine step_ok _ 16 (by omega) _ rfl _ _ (fun i => zp_piece x0 16 (by omega) inb_S64x6144_S64x128_0_2048 i) ?_
  refine step_ok _ 15 (by omega) _ rfl _ _ (fun i => zp_piece x0 15 (by omega) inb_S64x6144_S64x128_0_1920 i) ?_
  refine step_ok _ 14 (by omega) _ rfl _ _ (fun i => zp_piece x0 14 (by omega) inb_S64x6144_S64x128_0_1792 i) ?_
  refine step_ok _ 13 (by omega) _ rfl _ _ (fun i => zp_piece x0 13 (by omega) inb_S64x6144_S64x128_0_1664 i) ?_
  refine step_ok _ 12 (by omega) _ rfl _ _ (fun i => zp_piece x0 12 (by omega) inb_S64x6144_S64x128_0_1536 i) ?_
  refine step_ok _ 11 (by omega) _ rfl _ _ (fun i => zp_piece x0 11 (by omega) inb_S64x6144_S64x128_0_1408 i) ?_
  refine step_ok _ 10 (by omega) _ rfl _ _ (fun i => zp_piece x0 10 (by omega) inb_S64x6144_S64x128_0_1280 i) ?_
  refine step_ok _ 9 (by omega) _ rfl _ _ (fun i => zp_piece x0 9 (by omega) inb_S64x6144_S64x128_0_1152 i) ?_
  refine step_ok _ 8 (by omega) _ rfl _ _ (fun i => zp_piece x0 8 (by omega) inb_S64x6144_S64x128_0_1024 i) ?_
  refine step_ok _ 7 (by omega) _ rfl _ _ (fun i => zp_piece x0 7 (by omega) inb_S64x6144_S64x128_0_896 i) ?_
  refine step_ok _ 6 (by omega) _ rfl _ _ (fun i => zp_piece x0 6 (by omega) inb_S64x6144_S64x128_0_768 i) ?_
  refine step_ok _ 5 (by omega) _ rfl _ _ (fun i => zp_piece x0 5 (by omega) inb_S64x6144_S64x128_0_640 i) ?_
  refine step_ok _ 4 (by omega) _ rfl _ _ (fun i => zp_piece x0 4 (by omega) inb_S64x6144_S64x128_0_512 i) ?_
  refine step_ok _ 3 (by omega) _ rfl _ _ (fun i => zp_piece x0 3 (by omega) inb_S64x6144_S64x128_0_384 i) ?_
  refine step_ok _ 2 (by omega) _ rfl _ _ (fun i => zp_piece x0 2 (by omega) inb_S64x6144_S64x128_0_256 i) ?_
  refine step_ok _ 1 (by omega) _ rfl _ _ (fun i => zp_piece x0 1 (by omega) inb_S64x6144_S64x128_0_128 i) ?_
  refine step_ok _ 0 (by omega) _ rfl _ _ (fun i => zp_piece x0 0 (by omega) inb_S64x6144_S64x128_0_0 i) ?_
  exact fun i g h => absurd h (Nat.not_lt_zero _)

/-- The block of scales. -/
theorem out3_at (x0 : Vec Ideal S64x6144 .bf16) (i : Fin 64) (g : Fin 48) : out0_3 x0 (ix2 i g) = scale (grp (brow x0 i) g) := by
  rw [out3_eq]
  refine (View.canon_apply_of_pieces (k0_pay2 (sAll x0)) _ ?_ (ix2 i g) (cover0_3 _ _)).trans ?_
  · refine List.forall_mem_cons.2 ⟨fun x => ?_, List.forall_mem_nil _⟩
    refine congrArg (k0_pay2 (sAll x0)) ?_
    funext b
    match b with
    | ⟨0, _⟩ => exact Fin.ext (by show (x 0).val = 0 + 1 * (x 0).val; omega)
    | ⟨1, _⟩ => exact Fin.ext (by show (x 1).val = 0 + 1 * (x 1).val; omega)
  · unfold k0_pay2
    pointwise
    exact sAll_ok x0 i g g.isLt

/-- The block of zero points. -/
theorem out4_at (x0 : Vec Ideal S64x6144 .bf16) (i : Fin 64) (g : Fin 48) : out0_4 x0 (ix2 i g) = zpB (grp (brow x0 i) g) := by
  rw [out4_eq]
  refine (View.canon_apply_of_pieces (Val := Elt Ideal) (e := .i8) (k0_pay3 (zAll x0)) _ ?_ (ix2 i g) (cover0_4 _ _)).trans ?_
  · refine List.forall_mem_cons.2 ⟨fun x => ?_, List.forall_mem_nil _⟩
    refine congrArg (k0_pay3 (zAll x0)) ?_
    funext b
    match b with
    | ⟨0, _⟩ => exact Fin.ext (by show (x 0).val = 0 + 1 * (x 0).val; omega)
    | ⟨1, _⟩ => exact Fin.ext (by show (x 1).val = 0 + 1 * (x 1).val; omega)
  · unfold k0_pay3
    pointwise
    rw [zAll_ok x0 i g g.isLt]
    rfl

end Cert.Proof

end
-- ==== Proof.R0.lean ====
/- The arrays the quantising pipeline leaves, as functions of the rows of the flattened activations. -/
module

public import proofs.«01_k».proof.Proof.Q1
public import Idealize.ShloMosaic.Lib.Pipeline.ValueKit

@[expose] public section

set_option maxRecDepth 16384

noncomputable section

namespace Cert.Proof

open Idealize.ShloMosaic Idealize.ShloMosaic.TcCoe Idealize.SL.Sem
open Idealize.ShloMosaic.Pipeline (Dat)
open Cert.KernelIdeal Cert.KernelIdeal.Gen

/-- Row `r` of the flattened activations. -/
def xrow (X : FVec Ideal S9216x6144 .bf16) (r : Fin 9216) : Fin 6144 → EReal := fun k => X (ix2 r k)

/-- Which block of rows each window is on. -/
theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ t.val < 144 :=
  (by decide +kernel : ∀ t : Fin grid0.N, _)

variable (V : (c : Dev nD) → (b : Ref sig .tc) → Buf (Elt Ideal) ((c : Thread nD τ).loc b))

/-- A row of an input block is a row of the array. -/
theorem brow_blk (c : Dev nD) (t : Fin cfg0.N) (i : Fin 64) (r : Fin 9216) (h : r.val = t.val * 64 + i.val) :
    brow (iblk0 V c 0 t) i = xrow (V c main_v0) r := by
  funext k
  unfold brow xrow
  blk_ext [iblk0, idx0 t]

/-- Result 0 of the quantising pipeline. -/
def opArr (X : FVec Ideal S9216x6144 .bf16) : FVec Ideal S9216x6144 .bf16 := fun j => opVal (xrow X (j 0)) (j 1)

theorem final0_1 (c : Dev nD) : (dat0 V c).arrAt 1 cfg0.N = opArr (V c main_v0) := by
  refine (dat0 V c).arrAt_eq_of_covers 1 _ (by decide +kernel) fun t _ y => ?_
  blk_simp
  rw [after0_1]
  obtain ⟨i, l, rfl⟩ : ∃ (i : Fin 64) (l : Fin 6144), y = ix2 i l := ⟨y 0, y 1, eq_ix2 y⟩
  have ht := (idx0 t).2.2.2.2.2
  have hr : t.val * 64 + i.val < 9216 := by omega
  refine (out1_at (iblk0 V c 0 t) i l).trans ?_
  rw [brow_blk V c t i ⟨t.val * 64 + i.val, hr⟩ rfl]
  have e : (((cfg0.win 1).blk t).view.emb (ix2 i l)) = ix2 (⟨t.val * 64 + i.val, hr⟩ : Fin 9216) l := by
    blk_ext [idx0 t]
  exact (congrArg (opArr (V c main_v0)) e).symm

/-- Result 1 of the quantising pipeline. -/
def pkArr (X : FVec Ideal S9216x6144 .bf16) : IVec S9216x3072 8 := fun j => pkVal (xrow X (j 0)) (j 1)

theorem final0_2 (c : Dev nD) : (dat0 V c).arrAt 2 cfg0.N = pkArr (V c main_v0) := by
  refine (dat0 V c).arrAt_eq_of_covers 2 _ (by decide +kernel) fun t _ y => ?_
  blk_simp
  rw [after0_2]
  obtain ⟨i, l, rfl⟩ : ∃ (i : Fin 64) (l : Fin 3072), y = ix2 i l := ⟨y 0, y 1, eq_ix2 y⟩
  have ht := (idx0 t).2.2.2.2.2
  have hr : t.val * 64 + i.val < 9216 := by omega
  refine (out2_at (iblk0 V c 0 t) i l).trans ?_
  rw [brow_blk V c t i ⟨t.val * 64 + i.val, hr⟩ rfl]
  have e : (((cfg0.win 2).blk t).view.emb (ix2 i l)) = ix2 (⟨t.val * 64 + i.val, hr⟩ : Fin 9216) l := by
    blk_ext [idx0 t]
  exact (congrArg (pkArr (V c main_v0)) e).symm

/-- Result 2 of the quantising pipeline. -/
def scArr (X : FVec Ideal S9216x6144 .bf16) : FVec Ideal S9216x48 .f32 := fun j => scale (grp (xrow X (j 0)) (j 1))

theorem final0_3 (c : Dev nD) : (dat0 V c).arrAt 3 cfg0.N = scArr (V c main_v0) := by
  refine (dat0 V c).arrAt_eq_of_covers 3 _ (by decide +kernel) fun t _ y => ?_
  blk_simp
  rw [after0_3]
  obtain ⟨i, l, rfl⟩ : ∃ (i : Fin 64) (l : Fin 48), y = ix2 i l := ⟨y 0, y 1, eq_ix2 y⟩
  have ht := (idx0 t).2.2.2.2.2
  have hr : t.val * 64 + i.val < 9216 := by omega
  refine (out3_at (iblk0 V c 0 t) i l).trans ?_
  rw [brow_blk V c t i ⟨t.val * 64 + i.val, hr⟩ rfl]
  have e : (((cfg0.win 3).blk t).view.emb (ix2 i l)) = ix2 (⟨t.val * 64 + i.val, hr⟩ : Fin 9216) l := by
    blk_ext [idx0 t]
  exact (congrArg (scArr (V c main_v0)) e).symm

/-- Result 3 of the quantising pipeline. -/
def zpArr (X : FVec Ideal S9216x6144 .bf16) : IVec S9216x48 8 := fun j => zpB (grp (xrow X (j 0)) (j 1))

theorem final0_4 (c : Dev nD) : (dat0 V c).arrAt 4 cfg0.N = zpArr (V c main_v0) := by
  refine (dat0 V c).arrAt_eq_of_covers 4 _ (by decide +kernel) fun t _ y => ?_
  blk_simp
  rw [after0_4]
  obtain ⟨i, l, rfl⟩ : ∃ (i : Fin 64) (l : Fin 48), y = ix2 i l := ⟨y 0, y 1, eq_ix2 y⟩
  have ht := (idx0 t).2.2.2.2.2
  have hr : t.val * 64 + i.val < 9216 := by omega
  refine (out4_at (iblk0 V c 0 t) i l).trans ?_
  rw [brow_blk V c t i ⟨t.val * 64 + i.val, hr⟩ rfl]
  have e : (((cfg0.win 4).blk t).view.emb (ix2 i l)) = ix2 (⟨t.val * 64 + i.val, hr⟩ : Fin 9216) l := by
    blk_ext [idx0 t]
  exact (congrArg (zpArr (V c main_v0)) e).symm

end Cert.Proof

end
-- ==== Proof.D1.lean ====
/- How the multiplying kernel reads a four-bit weight out of the packed bytes. -/
module

public import proofs.«01_k».proof.Proof.R0

@[expose] public section

set_option maxRecDepth 16384

noncomputable section

namespace Cert.Proof

open Idealize.ShloMosaic Idealize.ShloMosaic.TcCoe Idealize.SL.Sem
open Idealize.ShloMosaic.Pipeline (Dat)
open Cert.KernelIdeal Cert.KernelIdeal.Gen

/-- A four-bit field of a byte: the low one at even `e`, the high one at odd. -/
def nibAt (b : BitVec 8) (e : ℕ) : ℕ := if e % 2 = 0 then b.toNat % 16 else b.toNat / 16

theorem bf_nib (k : ℕ) (hk : k < 16) :
    (FloatOps.ofBits .bf16 (0x4308#16 ^^^ BitVec.ofNat 16 k) : Ideal .bf16) - (FloatOps.ofBits .bf16 0x4308#16 : Ideal .bf16) = sext4 k := by
  unfold sext4
  interval_cases k
  all_goals pointwise
  all_goals simp [Ideal.ofBits, Ideal.ieee]
  all_goals norm_cast
  all_goals norm_num

/-- A word's bits after the shift, mask and flip, sixteen of them: the four-bit field over the constant. -/
theorem nib_bits (w : BitVec 32) (b : BitVec 8) (t e : ℕ) (ht : t < 4) (he : e < 2)
    (hb : ∀ q < 8, w.getLsbD (8 * (2 * e + t / 2) + q) = b.getLsbD q) :
    (((w.sshiftRight (4 * t)) &&& 983055#32) ^^^ 1124614920#32).extractLsb' (16 * e) 16
      = 0x4308#16 ^^^ BitVec.ofNat 16 (nibAt b t) := by
  have hn : BitVec.ofNat 16 (nibAt b t) = ((b >>> (4 * (t % 2))).setWidth 16) &&& 15#16 := by
    apply BitVec.eq_of_toNat_eq
    unfold nibAt
    have := b.isLt
    rw [BitVec.toNat_and, BitVec.toNat_setWidth, BitVec.toNat_ushiftRight, BitVec.toNat_ofNat, Nat.shiftRight_eq_div_pow]
    show _ = _ &&& (2 ^ 4 - 1)
    rw [Nat.and_two_pow_sub_one_eq_mod]
    rcases Nat.mod_two_eq_zero_or_one t with h | h
    · rw [if_pos h, h]; omega
    · rw [if_neg (by omega), h]; omega
  rw [hn]
  apply BitVec.eq_of_getLsbD_eq
  intro i hi
  have h0 := hb 0 (by omega)
  have h1 := hb 1 (by omega)
  have h2 := hb 2 (by omega)
  have h3 := hb 3 (by omega)
  have h4 := hb 4 (by omega)
  have h5 := hb 5 (by omega)
  have h6 := hb 6 (by omega)
  have h7 := hb 7 (by omega)
  clear hb hn
  interval_cases t <;> interval_cases e <;> interval_cases i <;>
    simp_all [BitVec.getElem_sshiftRight, BitVec.getLsbD_sshiftRight, BitVec.getLsbD_setWidth]

end Cert.Proof

end
-- ==== Proof.D2.lean ====
/- The unpacked weights: what each stored tile holds, and the whole scratch array. -/
module

public import proofs.«01_k».proof.Proof.D1

@[expose] public section

set_option maxRecDepth 16384

noncomputable section

namespace Cert.Proof

open Idealize.ShloMosaic Idealize.ShloMosaic.TcCoe Idealize.SL.Sem
open Idealize.ShloMosaic.Pipeline (Dat)
open Cert.KernelIdeal Cert.KernelIdeal.Gen

/-- One stored tile: eight rows of packed words, one field of each half word, times the row of scales. -/
def dec (o : ℕ) (h : S32x512.Slices ![o, 0] S8x512) (sh : BitVec 32) (v0 : Vec Ideal S512x128 .i8) (v3 : Vec Ideal S1x512 .f32) :
    FVec Ideal S16x512 .bf16 :=
  shapeCast S16x512 (mulf (subf (bitcastToFloat .bf16 (bitcast S16x512 16
    (xori (andi (shrsi (extractStridedSlice S8x512 ![o, 0] (bitcast S32x512 32
      (transpose S128x512 [1, 0] v0 transposes_S512x128_p1_0_S128x512) bitcasts_S128x512_w8_S32x512_w32) h) (broadcast S8x512 sh))
      (broadcast S8x512 983055#32)) (broadcast S8x512 1124614920#32)) bitcasts_S8x512_w32_S16x512_w16))
    (broadcast S16x512 (Scalar.ofBits .bf16 0x4308#16)))
    (truncf .bf16 (broadcastTo S16x512 (shapeCast S1x512 (shapeCast S1x512 v3 shapeCasts_S1x512_S1x512) shapeCasts_S1x512_S1x512)
      broadcasts_S1x512_S16x512) bitsLt_bf16_f32)) shapeCasts_S16x512_S16x512

theorem inbP (p r : ℕ) (hp : p < 24) (hr : r ≤ 240) : ∀ a, (![256 * p + r, 0] : Fin 2 → ℕ) a + S16x512.size a ≤ S6144x512.size a := by
  intro a
  match a with
  | ⟨0, _⟩ => show 256 * p + r + 16 ≤ 6144; omega
  | ⟨1, _⟩ => show 0 + 512 ≤ 512; omega

theorem inbV (p : ℕ) (hp : p < 24) : ∀ a, (![0, 128 * p] : Fin 2 → ℕ) a + S512x128.size a ≤ S512x3072.size a := by
  intro a
  match a with
  | ⟨0, _⟩ => show 0 + 512 ≤ 512; omega
  | ⟨1, _⟩ => show 128 * p + 128 ≤ 3072; omega

theorem inbS (g : ℕ) (hg : g < 48) : ∀ a, (![g, 0] : Fin 2 → ℕ) a + S1x512.size a ≤ S48x512.size a := by
  intro a
  match a with
  | ⟨0, _⟩ => show g + 1 ≤ 48; omega
  | ⟨1, _⟩ => show 0 + 512 ≤ 512; omega

/-- The sixteen tiles of one block of packed bytes, the last stored first. -/
def seg (p : ℕ) (hp : p < 24) (v0 : Vec Ideal S512x128 .i8) (s0 s1 : Vec Ideal S1x512 .f32) : List (View.Piece (Elt Ideal) S6144x512 .bf16) :=
  [⟨Rect.unit (s := S6144x512) ![256 * p + 208, 0] S16x512.size (inbP p 208 hp (by omega)), dec 24 slices_S32x512_o24_0_S8x512 12#32 v0 s1⟩,
   ⟨Rect.unit (s := S6144x512) ![256 * p + 144, 0] S16x512.size (inbP p 144 hp (by omega)), dec 24 slices_S32x512_o24_0_S8x512 8#32 v0 s1⟩,
   ⟨Rect.unit (s := S6144x512) ![256 * p + 112, 0] S16x512.size (inbP p 112 hp (by omega)), dec 24 slices_S32x512_o24_0_S8x512 4#32 v0 s1⟩,
   ⟨Rect.unit (s := S6144x512) ![256 * p + 48, 0] S16x512.size (inbP p 48 hp (by omega)), dec 24 slices_S32x512_o24_0_S8x512 0#32 v0 s1⟩,
   ⟨Rect.unit (s := S6144x512) ![256 * p + 192, 0] S16x512.size (inbP p 192 hp (by omega)), dec 16 slices_S32x512_o16_0_S8x512 12#32 v0 s1⟩,
   ⟨Rect.unit (s := S6144x512) ![256 * p + 128, 0] S16x512.size (inbP p 128 hp (by omega)), dec 16 slices_S32x512_o16_0_S8x512 8#32 v0 s1⟩,
   ⟨Rect.unit (s := S6144x512) ![256 * p + 96, 0] S16x512.size (inbP p 96 hp (by omega)), dec 16 slices_S32x512_o16_0_S8x512 4#32 v0 s1⟩,
   ⟨Rect.unit (s := S6144x512) ![256 * p + 32, 0] S16x512.size (inbP p 32 hp (by omega)), dec 16 slices_S32x512_o16_0_S8x512 0#32 v0 s1⟩,
   ⟨Rect.unit (s := S6144x512) ![256 * p + 240, 0] S16x512.size (inbP p 240 hp (by omega)), dec 8 slices_S32x512_o8_0_S8x512 12#32 v0 s0⟩,
   ⟨Rect.unit (s := S6144x512) ![256 * p + 176, 0] S16x512.size (inbP p 176 hp (by omega)), dec 8 slices_S32x512_o8_0_S8x512 8#32 v0 s0⟩,
   ⟨Rect.unit (s := S6144x512) ![256 * p + 80, 0] S16x512.size (inbP p 80 hp (by omega)), dec 8 slices_S32x512_o8_0_S8x512 4#32 v0 s0⟩,
   ⟨Rect.unit (s := S6144x512) ![256 * p + 16, 0] S16x512.size (inbP p 16 hp (by omega)), dec 8 slices_S32x512_o8_0_S8x512 0#32 v0 s0⟩,
   ⟨Rect.unit (s := S6144x512) ![256 * p + 224, 0] S16x512.size (inbP p 224 hp (by omega)), dec 0 slices_S32x512_o0_0_S8x512 12#32 v0 s0⟩,
   ⟨Rect.unit (s := S6144x512) ![256 * p + 160, 0] S16x512.size (inbP p 160 hp (by omega)), dec 0 slices_S32x512_o0_0_S8x512 8#32 v0 s0⟩,
   ⟨Rect.unit (s := S6144x512) ![256 * p + 64, 0] S16x512.size (inbP p 64 hp (by omega)), dec 0 slices_S32x512_o0_0_S8x512 4#32 v0 s0⟩,
   ⟨Rect.unit (s := S6144x512) ![256 * p + 0, 0] S16x512.size (inbP p 0 hp (by omega)), dec 0 slices_S32x512_o0_0_S8x512 0#32 v0 s0⟩]

variable (c : Dev nD) (arg3 : Memref sig .tc .vmem S512x3072 .i8) (harg3 : arg3.IsWhole) (arg4 : Memref sig .tc .vmem S48x512 .f32) (harg4 : arg4.IsWhole)
  (x1 : Vec Ideal S512x3072 .i8) (x2 : Vec Ideal S48x512 .f32)

/-- A load of the packed weights. -/
def wl (p : ℕ) (hp : p < 24) : Vec Ideal S512x128 .i8 :=
  View.readAt (Elt Ideal) arg3.view (Rect.unit (s := S512x3072) ![0, 128 * p] S512x128.size (inbV p hp)).toLoadRect (harg3.unread x1)

/-- A load of a row of scales. -/
def sl (g : ℕ) (hg : g < 48) : Vec Ideal S1x512 .f32 :=
  View.readAt (Elt Ideal) arg4.view (Rect.unit (s := S48x512) ![g, 0] S1x512.size (inbS g hg)).toLoadRect (harg4.unread x2)

/-- The tiles of block `p` as the kernel stores them. -/
def segK (p : ℕ) (hp : p < 24) : List (View.Piece (Elt Ideal) S6144x512 .bf16) :=
  seg p hp (wl arg3 harg3 x1 p hp) (sl arg4 harg4 x2 (2 * p) (by omega)) (sl arg4 harg4 x2 (2 * p + 1) (by omega))

set_option maxRecDepth 65536 in
set_option maxHeartbeats 2000000 in
theorem stores_eq : kernelRun1_A.sl.HS0_384 c arg3 harg3 arg4 harg4 x1 x2
    = segK arg3 harg3 arg4 harg4 x1 x2 23 (by omega) ++ (segK arg3 harg3 arg4 harg4 x1 x2 22 (by omega) ++ (segK arg3 harg3 arg4 harg4 x1 x2 21 (by omega) ++ (segK arg3 harg3 arg4 harg4 x1 x2 20 (by omega) ++ (segK arg3 harg3 arg4 harg4 x1 x2 19 (by omega) ++ (segK arg3 harg3 arg4 harg4 x1 x2 18 (by omega) ++ (segK arg3 harg3 arg4 harg4 x1 x2 17 (by omega) ++ (segK arg3 harg3 arg4 harg4 x1 x2 16 (by omega) ++ (segK arg3 harg3 arg4 harg4 x1 x2 15 (by omega) ++ (segK arg3 harg3 arg4 harg4 x1 x2 14 (by omega) ++ (segK arg3 harg3 arg4 harg4 x1 x2 13 (by omega) ++ (segK arg3 harg3 arg4 harg4 x1 x2 12 (by omega) ++ (segK arg3 harg3 arg4 harg4 x1 x2 11 (by omega) ++ (segK arg3 harg3 arg4 harg4 x1 x2 10 (by omega) ++ (segK arg3 harg3 arg4 harg4 x1 x2 9 (by omega) ++ (segK arg3 harg3 arg4 harg4 x1 x2 8 (by omega) ++ (segK arg3 harg3 arg4 harg4 x1 x2 7 (by omega) ++ (segK arg3 harg3 arg4 harg4 x1 x2 6 (by omega) ++ (segK arg3 harg3 arg4 harg4 x1 x2 5 (by omega) ++ (segK arg3 harg3 arg4 harg4 x1 x2 4 (by omega) ++ (segK arg3 harg3 arg4 harg4 x1 x2 3 (by omega) ++ (segK arg3 harg3 arg4 harg4 x1 x2 2 (by omega) ++ (segK arg3 harg3 arg4 harg4 x1 x2 1 (by omega) ++ (segK arg3 harg3 arg4 harg4 x1 x2 0 (by omega)))))))))))))))))))))))) := rfl

end Cert.Proof

end
-- ==== Proof.D3.lean ====
/- The unpacked weights read at an index. -/
module

public import proofs.«01_k».proof.Proof.D2

@[expose] public section

set_option maxRecDepth 16384

noncomputable section

namespace Cert.Proof

open Idealize.ShloMosaic Idealize.ShloMosaic.TcCoe Idealize.SL.Sem
open Idealize.ShloMosaic.Pipeline (Dat)
open Cert.KernelIdeal Cert.KernelIdeal.Gen

/-- The weight of element `e` of group `g`, in output column `n` of the block: its four-bit field, signed, times the group's scale. -/
def wVal (x1 : Vec Ideal S512x3072 .i8) (x2 : Vec Ideal S48x512 .f32) (g : Fin 48) (e : Fin 128) (n : Fin 512) : EReal :=
  sext4 (nibAt (x1 (ix2 n ⟨64 * g.val + e.val / 2, by omega⟩)) e.val) * x2 (ix2 g n)

/-- Row `R` of the unpacked weights: the group and element whose activation column `R` of the operand holds. -/
def wScr (x1 : Vec Ideal S512x3072 .i8) (x2 : Vec Ideal S48x512 .f32) : Vec Ideal S6144x512 .bf16 := fun j =>
  wVal x1 x2 (gOf (j 0)) (eOf (j 0)) (j 1)

theorem w8w_at (x : IVec S128x512 8) (h : S128x512.Bitcasts 8 S32x512 32) (a : Fin 32) (l : Fin 512) (q : Nat) (hq : q < 32) (p : Fin 128)
    (hp : p.val = 4 * a.val + q / 8) :
    (bitcast S32x512 32 x h (ix2 a l)).getLsbD q = (x (ix2 p l)).getLsbD (q % 8) :=
  bitcast_8_32_getLsbD_ix2 x h a l q hq p hp

theorem half_at (y : IVec S8x512 32) (h : S8x512.Bitcasts 32 S16x512 16) (r : Fin 16) (n : Fin 512) :
    bitcast S16x512 16 y h (ix2 r n) = (y (ix2 ⟨r.val / 2, by omega⟩ n)).extractLsb' (16 * (r.val % 2)) 16 := by
  rw [bitcast_32_16]
  refine congrArg (fun z => (y z).extractLsb' (16 * (r.val % 2)) 16) ?_
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ 1 + 2 = 2; omega))

theorem shr_at (x : BitVec 32) (t : ℕ) (ht : t < 4) : IntOp.shrsi ArithUnit.vector x (BitVec.ofNat 32 (4 * t)) = x.sshiftRight (4 * t) := by
  interval_cases t <;> simp [IntOp.shrsi]

/-- A stored tile, read at an index. -/
theorem dec_at (u : ℕ) (hu : u < 4) (h : S32x512.Slices ![8 * u, 0] S8x512) (t : ℕ) (ht : t < 4) (v0 : Vec Ideal S512x128 .i8) (v3 : Vec Ideal S1x512 .f32)
    (r : Fin 16) (n : Fin 512) :
    (dec (8 * u) h (BitVec.ofNat 32 (4 * t)) v0 v3 (ix2 r n) : EReal)
      = sext4 (nibAt (v0 (ix2 n ⟨32 * u + 2 * r.val + t / 2, by omega⟩)) t) * v3 (ix2 (0 : Fin 1) n) := by
  unfold dec
  pointwise
  have hr : 8 * u + r.val / 2 < 32 := by omega
  have ez : extractStridedSlice S8x512 ![8 * u, 0]
      (bitcast S32x512 32 (transpose S128x512 [1, 0] v0 transposes_S512x128_p1_0_S128x512) bitcasts_S128x512_w8_S32x512_w32) h
        (ix2 (⟨r.val / 2, by omega⟩ : Fin 8) n)
      = bitcast S32x512 32 (transpose S128x512 [1, 0] v0 transposes_S512x128_p1_0_S128x512) bitcasts_S128x512_w8_S32x512_w32
        (ix2 (⟨8 * u + r.val / 2, hr⟩ : Fin 32) n) := by
    refine extractStridedSlice_apply _ _ _ _ _ ?_
    intro b
    match b with
    | ⟨0, _⟩ => exact rfl
    | ⟨1, _⟩ => exact (Nat.zero_add _).symm
  rw [half_at]
  have ew : ∀ y : IVec S8x512 32, ∀ j : S8x512.Idx, (xori (andi (shrsi y (broadcast S8x512 (BitVec.ofNat 32 (4 * t)))) (broadcast S8x512 983055#32))
      (broadcast S8x512 1124614920#32)) j = ((IntOp.shrsi ArithUnit.vector (y j) (BitVec.ofNat 32 (4 * t))) &&& 983055#32) ^^^ 1124614920#32 :=
    fun y j => rfl
  rw [ew, ez, shr_at _ t ht]
  rw [nib_bits _ (v0 (ix2 n ⟨32 * u + 2 * r.val + t / 2, by omega⟩)) t (r.val % 2) ht (Nat.mod_lt _ (by norm_num)) ?_]
  · exact congrArg (fun z : EReal => z * v3 (ix2 (0 : Fin 1) n)) (bf_nib _ (by unfold nibAt; have := (v0 (ix2 n ⟨32 * u + 2 * r.val + t / 2, by omega⟩)).isLt; split <;> omega))
  · intro q hq
    rw [w8w_at _ _ _ _ _ (by omega) ⟨32 * u + 2 * r.val + t / 2, by omega⟩ (by dsimp only; omega),
      show (8 * (2 * (r.val % 2) + t / 2) + q) % 8 = q by omega]
    refine congrArg (fun z => BitVec.getLsbD z q) ?_
    pointwise

/-- A tile of the block `p` is a tile of the whole array. -/
theorem tile_ok (x1 : Vec Ideal S512x3072 .i8) (x2 : Vec Ideal S48x512 .f32) (p : ℕ) (hp : p < 24) (u : ℕ) (hu : u < 4)
    (h : S32x512.Slices ![8 * u, 0] S8x512) (t : ℕ) (ht : t < 4)
    (v0 : Vec Ideal S512x128 .i8) (hv : ∀ n k, v0 (ix2 n k) = x1 (ix2 n ⟨128 * p + k.val, by omega⟩))
    (s : Vec Ideal S1x512 .f32) (hs : ∀ n : Fin 512, (s (ix2 (0 : Fin 1) n) : EReal) = x2 (ix2 (⟨2 * p + u / 2, by omega⟩ : Fin 48) n))
    (ro : ℕ) (hro : ro = 64 * t + 16 * (if 2 ≤ t then (u + 2) % 4 else u)) (hr' : ro ≤ 240)
    (x : S16x512.Idx) :
    dec (8 * u) h (BitVec.ofNat 32 (4 * t)) v0 s x
      = wScr x1 x2 ((Rect.unit (s := S6144x512) ![256 * p + ro, 0] S16x512.size (inbP p ro hp hr')).emb x) := by
  obtain ⟨r, n, rfl⟩ : ∃ (r : Fin 16) (n : Fin 512), x = ix2 r n := ⟨x 0, x 1, eq_ix2 x⟩
  have ee : (Rect.unit (s := S6144x512) ![256 * p + ro, 0] S16x512.size (inbP p ro hp hr')).emb (ix2 r n)
      = ix2 (⟨256 * p + ro + r.val, by omega⟩ : Fin 6144) n := by
    funext b
    match b with
    | ⟨0, _⟩ => exact Fin.ext (by show 256 * p + ro + 1 * r.val = 256 * p + ro + r.val; omega)
    | ⟨1, _⟩ => exact Fin.ext (by show 0 + 1 * n.val = n.val; omega)
  refine (dec_at u hu h t ht v0 s r n).trans ((?_ : _ = wVal x1 x2 (gOf ⟨256 * p + ro + r.val, by omega⟩) (eOf ⟨256 * p + ro + r.val, by omega⟩) n).trans
    (congrArg (wScr x1 x2) ee).symm)
  rw [hv, hs]
  unfold wVal
  have hg : gOf ⟨256 * p + ro + r.val, by omega⟩ = ⟨2 * p + u / 2, by omega⟩ := by
    apply Fin.ext; unfold gOf; dsimp only; split at hro <;> omega
  have he : (eOf ⟨256 * p + ro + r.val, by omega⟩).val = 64 * (u % 2) + 4 * r.val + t := by
    unfold eOf; dsimp only; split at hro <;> omega
  rw [hg]
  have hn : ∀ (b : BitVec 8) (e e' : ℕ), e % 2 = e' % 2 → nibAt b e = nibAt b e' := fun b e e' h => by unfold nibAt; rw [h]
  rw [hn _ (eOf ⟨256 * p + ro + r.val, by omega⟩).val t (by omega)]
  congr 4
  congr 1
  apply Fin.ext
  dsimp only
  omega

/-- The sixteen tiles of block `p`. -/
theorem seg_ok (x1 : Vec Ideal S512x3072 .i8) (x2 : Vec Ideal S48x512 .f32) (p : ℕ) (hp : p < 24)
    (v0 : Vec Ideal S512x128 .i8) (hv : ∀ n k, v0 (ix2 n k) = x1 (ix2 n ⟨128 * p + k.val, by omega⟩))
    (s0 s1 : Vec Ideal S1x512 .f32) (hs0 : ∀ n : Fin 512, (s0 (ix2 (0 : Fin 1) n) : EReal) = x2 (ix2 (⟨2 * p, by omega⟩ : Fin 48) n))
    (hs1 : ∀ n : Fin 512, (s1 (ix2 (0 : Fin 1) n) : EReal) = x2 (ix2 (⟨2 * p + 1, by omega⟩ : Fin 48) n)) :
    ∀ pc ∈ seg p hp v0 s0 s1, ∀ x : pc.1.shape.Idx, pc.2 x = wScr x1 x2 (pc.1.emb x) := by
  unfold seg
  refine List.forall_mem_cons.2 ⟨tile_ok x1 x2 p hp 3 (by omega) _ 3 (by omega) v0 hv s1 hs1 208 (by norm_num) (by omega), ?_⟩
  refine List.forall_mem_cons.2 ⟨tile_ok x1 x2 p hp 3 (by omega) _ 2 (by omega) v0 hv s1 hs1 144 (by norm_num) (by omega), ?_⟩
  refine List.forall_mem_cons.2 ⟨tile_ok x1 x2 p hp 3 (by omega) _ 1 (by omega) v0 hv s1 hs1 112 (by norm_num) (by omega), ?_⟩
  refine List.forall_mem_cons.2 ⟨tile_ok x1 x2 p hp 3 (by omega) _ 0 (by omega) v0 hv s1 hs1 48 (by norm_num) (by omega), ?_⟩
  refine List.forall_mem_cons.2 ⟨tile_ok x1 x2 p hp 2 (by omega) _ 3 (by omega) v0 hv s1 hs1 192 (by norm_num) (by omega), ?_⟩
  refine List.forall_mem_cons.2 ⟨tile_ok x1 x2 p hp 2 (by omega) _ 2 (by omega) v0 hv s1 hs1 128 (by norm_num) (by omega), ?_⟩
  refine List.forall_mem_cons.2 ⟨tile_ok x1 x2 p hp 2 (by omega) _ 1 (by omega) v0 hv s1 hs1 96 (by norm_num) (by omega), ?_⟩
  refine List.forall_mem_cons.2 ⟨tile_ok x1 x2 p hp 2 (by omega) _ 0 (by omega) v0 hv s1 hs1 32 (by norm_num) (by omega), ?_⟩
  refine List.forall_mem_cons.2 ⟨tile_ok x1 x2 p hp 1 (by omega) _ 3 (by omega) v0 hv s0 hs0 240 (by norm_num) (by omega), ?_⟩
  refine List.forall_mem_cons.2 ⟨tile_ok x1 x2 p hp 1 (by omega) _ 2 (by omega) v0 hv s0 hs0 176 (by norm_num) (by omega), ?_⟩
  refine List.forall_mem_cons.2 ⟨tile_ok x1 x2 p hp 1 (by omega) _ 1 (by omega) v0 hv s0 hs0 80 (by norm_num) (by omega), ?_⟩
  refine List.forall_mem_cons.2 ⟨tile_ok x1 x2 p hp 1 (by omega) _ 0 (by omega) v0 hv s0 hs0 16 (by norm_num) (by omega), ?_⟩
  refine List.forall_mem_cons.2 ⟨tile_ok x1 x2 p hp 0 (by omega) _ 3 (by omega) v0 hv s0 hs0 224 (by norm_num) (by omega), ?_⟩
  refine List.forall_mem_cons.2 ⟨tile_ok x1 x2 p hp 0 (by omega) _ 2 (by omega) v0 hv s0 hs0 160 (by norm_num) (by omega), ?_⟩
  refine List.forall_mem_cons.2 ⟨tile_ok x1 x2 p hp 0 (by omega) _ 1 (by omega) v0 hv s0 hs0 64 (by norm_num) (by omega), ?_⟩
  refine List.forall_mem_cons.2 ⟨tile_ok x1 x2 p hp 0 (by omega) _ 0 (by omega) v0 hv s0 hs0 0 (by norm_num) (by omega), ?_⟩
  exact List.forall_mem_nil _

variable (c : Dev nD) (arg3 : Memref sig .tc .vmem S512x3072 .i8) (harg3 : arg3.IsWhole) (arg4 : Memref sig .tc .vmem S48x512 .f32) (harg4 : arg4.IsWhole)
  (x1 : Vec Ideal S512x3072 .i8) (x2 : Vec Ideal S48x512 .f32)

theorem wl_at (p : ℕ) (hp : p < 24) (n : Fin 512) (k : Fin 128) :
    wl arg3 harg3 x1 p hp (ix2 n k) = x1 (ix2 n ⟨128 * p + k.val, by omega⟩) := by
  unfold wl
  simp only [View.readAt_eq_ld, harg3.read_unread]
  refine congrArg x1 ?_
  funext b
  match b with
  | ⟨0, _⟩ => exact Fin.ext (by show 0 + 1 * n.val = n.val; omega)
  | ⟨1, _⟩ => exact Fin.ext (by show 128 * p + 1 * k.val = 128 * p + k.val; omega)

theorem sl_at (g : ℕ) (hg : g < 48) (n : Fin 512) :
    (sl arg4 harg4 x2 g hg (ix2 (0 : Fin 1) n) : EReal) = x2 (ix2 (⟨g, hg⟩ : Fin 48) n) := by
  unfold sl
  simp only [View.readAt_eq_ld, harg4.read_unread]
  refine congrArg x2 ?_
  funext b
  match b with
  | ⟨0, _⟩ => exact Fin.ext (by show g + 1 * 0 = g; omega)
  | ⟨1, _⟩ => exact Fin.ext (by show 0 + 1 * n.val = n.val; omega)

theorem segK_ok (p : ℕ) (hp : p < 24) :
    ∀ pc ∈ segK arg3 harg3 arg4 harg4 x1 x2 p hp, ∀ x : pc.1.shape.Idx, pc.2 x = wScr x1 x2 (pc.1.emb x) :=
  seg_ok x1 x2 p hp _ (wl_at arg3 harg3 x1 p hp) _ _ (sl_at arg4 harg4 x2 (2 * p) (by omega)) (sl_at arg4 harg4 x2 (2 * p + 1) (by omega))

/-- The scratch array after the stores. -/
theorem scr_eq : View.canon (kernelRun1_A.sl.HS0_384 c arg3 harg3 arg4 harg4 x1 x2) = wScr x1 x2 := by
  funext y
  refine View.canon_apply_of_pieces (Val := Elt Ideal) (e := .bf16) (wScr x1 x2) _ ?_ y
    (View.cover_of_tiledL (kernelRun1_A.sl.HS0_384 c arg3 harg3 arg4 harg4 x1 x2) S16x512.size (by sl_kernel_rfl) y)
  rw [stores_eq]
  repeat' rw [List.forall_mem_append]
  exact ⟨segK_ok arg3 harg3 arg4 harg4 x1 x2 23 (by omega), segK_ok arg3 harg3 arg4 harg4 x1 x2 22 (by omega), segK_ok arg3 harg3 arg4 harg4 x1 x2 21 (by omega), segK_ok arg3 harg3 arg4 harg4 x1 x2 20 (by omega), segK_ok arg3 harg3 arg4 harg4 x1 x2 19 (by omega), segK_ok arg3 harg3 arg4 harg4 x1 x2 18 (by omega), segK_ok arg3 harg3 arg4 harg4 x1 x2 17 (by omega), segK_ok arg3 harg3 arg4 harg4 x1 x2 16 (by omega), segK_ok arg3 harg3 arg4 harg4 x1 x2 15 (by omega), segK_ok arg3 harg3 arg4 harg4 x1 x2 14 (by omega), segK_ok arg3 harg3 arg4 harg4 x1 x2 13 (by omega), segK_ok arg3 harg3 arg4 harg4 x1 x2 12 (by omega), segK_ok arg3 harg3 arg4 harg4 x1 x2 11 (by omega), segK_ok arg3 harg3 arg4 harg4 x1 x2 10 (by omega), segK_ok arg3 harg3 arg4 harg4 x1 x2 9 (by omega), segK_ok arg3 harg3 arg4 harg4 x1 x2 8 (by omega), segK_ok arg3 harg3 arg4 harg4 x1 x2 7 (by omega), segK_ok arg3 harg3 arg4 harg4 x1 x2 6 (by omega), segK_ok arg3 harg3 arg4 harg4 x1 x2 5 (by omega), segK_ok arg3 harg3 arg4 harg4 x1 x2 4 (by omega), segK_ok arg3 harg3 arg4 harg4 x1 x2 3 (by omega), segK_ok arg3 harg3 arg4 harg4 x1 x2 2 (by omega), segK_ok arg3 harg3 arg4 harg4 x1 x2 1 (by omega), segK_ok arg3 harg3 arg4 harg4 x1 x2 0 (by omega)⟩

end Cert.Proof

end
-- ==== Proof.M1.lean ====
/- The multiplying pipeline: each block, and the array it leaves. -/
module

public import proofs.«01_k».proof.Proof.D3

@[expose] public section

set_option maxRecDepth 16384

noncomputable section

namespace Cert.Proof

open Idealize.ShloMosaic Idealize.ShloMosaic.TcCoe Idealize.SL.Sem
open Idealize.ShloMosaic.Pipeline (Dat)
open Cert.KernelIdeal Cert.KernelIdeal.Gen

theorem ldu {s : Shape} {α : Type} (x : s.Idx → α) {off : Fin s.rank → ℕ} (inb : ∀ a, off a + s.size a ≤ s.size a) (h : ∀ a, off a = 0) :
    (fun j => x ((Rect.unit off s.size inb).emb j)) = x := by
  funext j
  refine congrArg x (funext fun a => Fin.ext ?_)
  show off a + 1 * (j a).val = (j a).val
  rw [h a]; omega

/-- One block of the product. -/
def yBlk (x0 : Vec Ideal S1024x6144 .bf16) (x1 : Vec Ideal S512x3072 .i8) (x2 : Vec Ideal S48x512 .f32) (i : Fin 1024) (n : Fin 512) : EReal :=
  ∑ R : Fin 6144, (x0 (ix2 i R) : EReal) * wVal x1 x2 (gOf R) (eOf R) n

theorem pay733_at (a : Vec Ideal S1024x6144 .bf16) (b : Vec Ideal S6144x512 .bf16) (i : Fin 1024) (n : Fin 512) :
    (k1_pay733 a b (ix2 i n) : EReal) = ∑ R : Fin 6144, (a (ix2 i R) : EReal) * b (ix2 R n) := by
  unfold k1_pay733
  pointwise

variable (c : Dev nD) (i : grid1.Coords) (arg2 : Memref sig .tc .vmem S1024x6144 .bf16) (harg2 : arg2.IsWhole) (arg3 : Memref sig .tc .vmem S512x3072 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec Ideal S1024x6144 .bf16) (x1 : Vec Ideal S512x3072 .i8) (x2 : Vec Ideal S48x512 .f32)

theorem r331_eq : kernelRun1_A.sl.r_331 c arg2 harg2 arg3 harg3 arg4 harg4 arg6 x0 x1 x2 = k1_pay733 x0 (wScr x1 x2) := by
  have h1 : (View.readAt (Elt Ideal) arg2.view (Rect.unit (s := S1024x6144) ![0, 0] S1024x6144.size inb_S1024x6144_S1024x6144_0_0).toLoadRect (harg2.unread x0)) = x0 := by
    rw [View.readAt_eq_ld, harg2.read_unread]
    exact ldu x0 _ (by decide)
  have h2 : kernelRun1_A.sl.v5642 c arg3 harg3 arg4 harg4 arg6 x1 x2 = wScr x1 x2 := by
    unfold kernelRun1_A.sl.v5642
    rw [View.readCov_eq_canon', scr_eq]
    exact ldu (wScr x1 x2) _ (by decide)
  unfold kernelRun1_A.sl.r_331
  rw [h2, h1]

theorem out1_A_at (l : Fin 1024) (n : Fin 512) :
    (out1_A_3 c i arg2 harg2 arg3 harg3 arg4 harg4 arg5 harg5 arg6 harg6 x0 x1 x2 (ix2 l n) : EReal) = yBlk x0 x1 x2 l n := by
  unfold out1_A_3
  rw [View.read_writes_eq_canon _ _ _ (fun y => cover1_A_3 c i arg2 harg2 arg3 harg3 arg4 harg4 arg5 harg5 arg6 harg6 x0 x1 x2 y)]
  refine (View.canon_apply_of_pieces (Val := Elt Ideal) (e := .bf16) (k1_pay733 x0 (wScr x1 x2)) _ ?_ (ix2 l n)
    (cover1_A_3 c i arg2 harg2 arg3 harg3 arg4 harg4 arg5 harg5 arg6 harg6 x0 x1 x2 _)).trans (pay733_at x0 (wScr x1 x2) l n)
  unfold kernelRun1_A
  dsimp only
  rw [r331_eq]
  refine List.forall_mem_cons.2 ⟨fun x => ?_, List.forall_mem_nil _⟩
  exact (congrFun (ldu (k1_pay733 x0 (wScr x1 x2)) inb_S1024x512_S1024x512_0_0 (by decide)) x).symm

/-- Which block each window of the multiplying pipeline is on. -/
theorem idx1 : ∀ t : Fin cfg1.N, win1_0.index t = ![t.val / 32, 0] ∧ win1_1.index t = ![t.val % 32, 0] ∧ win1_2.index t = ![0, t.val % 32]
    ∧ win1_3.index t = ![t.val / 32, t.val % 32] ∧ t.val < 288 :=
  (by decide +kernel : ∀ t : Fin grid1.N, _)

/-- The product array, from the operand, the packed weights and the transposed scales. -/
def yArr (A : FVec Ideal S9216x6144 .bf16) (B : IVec S16384x3072 8) (S : FVec Ideal S48x16384 .f32) : FVec Ideal S9216x16384 .bf16 := fun j =>
  ∑ R : Fin 6144, (A (ix2 (j 0) R) : EReal) * (sext4 (nibAt (B (ix2 (j 1) ⟨64 * (gOf R).val + (eOf R).val / 2, by omega⟩)) (eOf R).val) * S (ix2 (gOf R) (j 1)))

variable (V : (c : Dev nD) → (b : Ref sig .tc) → Buf (Elt Ideal) ((c : Thread nD τ).loc b))

theorem final1 : (dat1 V c).arrAt 3 cfg1.N = yArr (V c main_v1_0) (V c main_arg1) (V c main_v2) := by
  refine (dat1 V c).arrAt_eq_of_covers 3 _ (by decide +kernel) fun t _ y => ?_
  blk_simp
  rw [after1_3]
  obtain ⟨l, n, rfl⟩ : ∃ (l : Fin 1024) (n : Fin 512), y = ix2 l n := ⟨y 0, y 1, eq_ix2 y⟩
  have ht := (idx1 t).2.2.2.2
  have hr : t.val / 32 * 1024 + l.val < 9216 := by omega
  have hn : t.val % 32 * 512 + n.val < 16384 := by omega
  have e : (((cfg1.win 3).blk t).view.emb (ix2 l n)) = ix2 (⟨t.val / 32 * 1024 + l.val, hr⟩ : Fin 9216) (⟨t.val % 32 * 512 + n.val, hn⟩ : Fin 16384) := by
    blk_ext [idx1 t]
  refine Eq.trans ?_ (congrArg (yArr (V c main_v1_0) (V c main_arg1) (V c main_v2)) e).symm
  unfold outsAt1
  refine (out1_A_at ..).trans ?_
  unfold yBlk yArr wVal
  refine Finset.sum_congr rfl fun R _ => ?_
  blk_point [iblk1, idx1 t]

end Cert.Proof

end
-- ==== Proof.Run.lean ====
/- The kernel program's run: what each result buffer holds at the end. -/
module

public import proofs.«01_k».proof.Proof.M1
public import Idealize.ShloMosaic.Lib.Claim

@[expose] public section

set_option maxRecDepth 16384

noncomputable section

namespace Cert.Proof

open Idealize.ShloMosaic Idealize.ShloMosaic.TcCoe Idealize.SL.Sem
open Idealize.ShloMosaic.Pipeline (Dat)
open Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Tactic Idealize.ShloMosaic.Rounds
set_option maxRecDepth 16384

variable (m : (ℓ : Loc nD τ sig) → Buf (Elt Ideal) ℓ) (ρ : Dev nD → PrngReg)

/-- The flattened activations. -/
def xFlat (X : FVec Ideal S12x768x6144 .bf16) : FVec Ideal S9216x6144 .bf16 := shapeCast S9216x6144 X shapeCasts_S12x768x6144_S9216x6144

/-- The product as the kernel computes it. -/
def kY (X : FVec Ideal S12x768x6144 .bf16) (B : IVec S16384x3072 8) (S : FVec Ideal S16384x48 .f32) : FVec Ideal S12x768x16384 .bf16 :=
  shapeCast S12x768x16384 (yArr (opArr (xFlat X)) B (transpose S48x16384 [1, 0] S transposes_S16384x48_S48x16384_1_0)) shapeCasts_S9216x16384_S12x768x16384
/-- The packed codes as the kernel computes them. -/
def kC (X : FVec Ideal S12x768x6144 .bf16) : IVec S12x768x3072 8 := shapeCast S12x768x3072 (pkArr (xFlat X)) shapeCasts_S9216x3072_S12x768x3072
/-- The scales as the kernel computes them. -/
def kS (X : FVec Ideal S12x768x6144 .bf16) : FVec Ideal S12x768x48 .f32 := shapeCast S12x768x48 (scArr (xFlat X)) shapeCasts_S9216x48_S12x768x48
/-- The zero points as the kernel computes them. -/
def kZ (X : FVec Ideal S12x768x6144 .bf16) : IVec S12x768x48 8 := shapeCast S12x768x48 (zpArr (xFlat X)) shapeCasts_S9216x48_S12x768x48

theorem V1_v0 (c : Dev nD) : V1 m ρ c main_v0 = xFlat (m ((c : Thread nD τ).loc main_arg0)) := by
  show StableHlo.after hostOps0 (W0 m ρ c) (Proc.devRef .tc main_v0) = _
  entry_read
  rfl

theorem V3_v1_0 (c : Dev nD) : V3 m ρ c main_v1_0 = opArr (xFlat (m ((c : Thread nD τ).loc main_arg0))) := by
  refine (W3_of m ρ c main_v1_0 (by decide)).trans ((W2_arr m ρ c 1).trans ((final0_1 (V1 m ρ) c).trans ?_))
  rw [V1_v0]

theorem V3_arg1 (c : Dev nD) : V3 m ρ c main_arg1 = m ((c : Thread nD τ).loc main_arg1) := W3_args m ρ c main_arg1 (by decide)

theorem V3_v2 (c : Dev nD) : V3 m ρ c main_v2 = transpose S48x16384 [1, 0] (m ((c : Thread nD τ).loc main_arg2)) transposes_S16384x48_S48x16384_1_0 := by
  rw [← W2_args m ρ c main_arg2 (by decide)]
  show StableHlo.after hostOps1 (W2 m ρ c) (Proc.devRef .tc main_v2) = _
  generalize W2 m ρ c = W
  entry_read
  rfl

theorem W4_v3 (c : Dev nD) : W4 m ρ c (Proc.devRef .tc main_v3)
    = yArr (opArr (xFlat (m ((c : Thread nD τ).loc main_arg0)))) (m ((c : Thread nD τ).loc main_arg1))
      (transpose S48x16384 [1, 0] (m ((c : Thread nD τ).loc main_arg2)) transposes_S16384x48_S48x16384_1_0) := by
  refine (W4_arr m ρ c 3).trans ((final1 c (V3 m ρ)).trans ?_)
  rw [V3_v1_0, V3_arg1, V3_v2]

theorem W4_v1_1 (c : Dev nD) : W4 m ρ c (Proc.devRef .tc main_v1_1) = pkArr (xFlat (m ((c : Thread nD τ).loc main_arg0))) := by
  refine (W4_of m ρ c main_v1_1 (by decide)).trans ((W3_of m ρ c main_v1_1 (by decide)).trans ((W2_arr m ρ c 2).trans ((final0_2 (V1 m ρ) c).trans ?_)))
  rw [V1_v0]

theorem W4_v1_2 (c : Dev nD) : W4 m ρ c (Proc.devRef .tc main_v1_2) = scArr (xFlat (m ((c : Thread nD τ).loc main_arg0))) := by
  refine (W4_of m ρ c main_v1_2 (by decide)).trans ((W3_of m ρ c main_v1_2 (by decide)).trans ((W2_arr m ρ c 3).trans ((final0_3 (V1 m ρ) c).trans ?_)))
  rw [V1_v0]

theorem W4_v1_3 (c : Dev nD) : W4 m ρ c (Proc.devRef .tc main_v1_3) = zpArr (xFlat (m ((c : Thread nD τ).loc main_arg0))) := by
  refine (W4_of m ρ c main_v1_3 (by decide)).trans ((W3_of m ρ c main_v1_3 (by decide)).trans ((W2_arr m ρ c 4).trans ((final0_4 (V1 m ρ) c).trans ?_)))
  rw [V1_v0]

theorem W5_v4 (c : Dev nD) : W5 m ρ c (Proc.devRef .tc main_v4) = kY (m ((c : Thread nD τ).loc main_arg0)) (m ((c : Thread nD τ).loc main_arg1)) (m ((c : Thread nD τ).loc main_arg2)) := by
  unfold kY
  rw [← W4_v3 m ρ c]
  show StableHlo.after hostOps2 (W4 m ρ c) (Proc.devRef .tc main_v4) = _
  generalize W4 m ρ c = W
  entry_read
  rfl

theorem W5_v5 (c : Dev nD) : W5 m ρ c (Proc.devRef .tc main_v5) = kC (m ((c : Thread nD τ).loc main_arg0)) := by
  unfold kC
  rw [← W4_v1_1 m ρ c]
  show StableHlo.after hostOps2 (W4 m ρ c) (Proc.devRef .tc main_v5) = _
  generalize W4 m ρ c = W
  entry_read
  rfl

theorem W5_v6 (c : Dev nD) : W5 m ρ c (Proc.devRef .tc main_v6) = kS (m ((c : Thread nD τ).loc main_arg0)) := by
  unfold kS
  rw [← W4_v1_2 m ρ c]
  show StableHlo.after hostOps2 (W4 m ρ c) (Proc.devRef .tc main_v6) = _
  generalize W4 m ρ c = W
  entry_read
  rfl

theorem W5_v7 (c : Dev nD) : W5 m ρ c (Proc.devRef .tc main_v7) = kZ (m ((c : Thread nD τ).loc main_arg0)) := by
  unfold kZ
  rw [← W4_v1_3 m ρ c]
  show StableHlo.after hostOps2 (W4 m ρ c) (Proc.devRef .tc main_v7) = _
  generalize W4 m ρ c = W
  entry_read
  rfl

set_option backward.isDefEq.respectTransparency.types false in
/-- Every run of the kernel program ends with the four results at the values above and the arguments unchanged. -/
theorem kernel_run : θ_run defs (onTc (τ := τ) (main (F := Ideal))) ⟨m, fun _ => 0, ρ⟩ (fun r => ∀ c : Dev nD,
      r.2.mem ((c.tc : Thread nD τ).loc main_v4) = kY (m ((c : Thread nD τ).loc main_arg0)) (m ((c : Thread nD τ).loc main_arg1)) (m ((c : Thread nD τ).loc main_arg2))
      ∧ r.2.mem ((c.tc : Thread nD τ).loc main_v5) = kC (m ((c : Thread nD τ).loc main_arg0))
      ∧ r.2.mem ((c.tc : Thread nD τ).loc main_v6) = kS (m ((c : Thread nD τ).loc main_arg0))
      ∧ r.2.mem ((c.tc : Thread nD τ).loc main_v7) = kZ (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨(h c _ (mem_uc main_v4 (by decide))).trans (W5_v4 m ρ c),
       (h c _ (mem_uc main_v5 (by decide))).trans (W5_v5 m ρ c),
       (h c _ (mem_uc main_v6 (by decide))).trans (W5_v6 m ρ c),
       (h c _ (mem_uc main_v7 (by decide))).trans (W5_v7 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.Proof

end
-- ==== Proof.Ref1.lean ====
/- The reference read at an index: its scales, zero points, codes and activations. -/
module

public import proofs.«01_k».proof.Proof.R0
public import proofs.«01_k».proof.Proof.D1
public import proofs.«01_k».proof.Proof.Gen.ReferenceIdeal.Read
public import Idealize.ShloMosaic.Lib.Pointwise

@[expose] public section

set_option maxRecDepth 16384

noncomputable section

namespace Cert.Proof.Ref

open Idealize.ShloMosaic Idealize.ShloMosaic.TcCoe Idealize.SL.Sem
open Idealize.ShloMosaic.Pipeline (Dat)
open Cert.ReferenceIdeal Cert.ReferenceIdeal.Gen Cert.ReferenceIdeal.Read

/-- A row of the activations. -/
def xr (X : FVec Ideal S12x768x6144 .bf16) (b : Fin 12) (t : Fin 768) : Fin 6144 → EReal := fun k => X (ix3 b t k)

variable (X : FVec Ideal S12x768x6144 .bf16) (b : Fin 12) (t : Fin 768) (g : Fin 48)

theorem v1_at (k : Fin 128) : (val_main_v1 (F := Ideal) X (ix4 b t g k) : EReal) = grp (xr X b t) g k := by
  rw [val_main_v1_apply, val_main_v0_apply]
  show X _ = X _
  refine congrArg X (funext fun a => ?_)
  fin_cases a <;> apply Fin.ext
  · show (((b.val * 768 + t.val) * 48 + g.val) * 128 + k.val) / 4718592 = b.val
    omega
  · show (((b.val * 768 + t.val) * 48 + g.val) * 128 + k.val) / 6144 % 768 = t.val
    omega
  · show (((b.val * 768 + t.val) * 48 + g.val) * 128 + k.val) % 6144 = 128 * g.val + k.val
    omega

theorem red4 : S12x768x48x128.Reduces [3] S12x768x48 := by decide

theorem lift4 (k : Fin 128) : red4.lift (ix3 b t g) k = ix4 b t g k := by
  funext a
  fin_cases a <;> rfl

theorem v2_at : (val_main_v2 (F := Ideal) X (ix3 b t g) : EReal) = Finset.univ.fold min (Ideal.ofBits .f32 0x7F800000#32) (grp (xr X b t) g) := by
  unfold val_main_v2
  refine (Host.reduce_eq_fold_single (min : EReal → EReal → EReal) _ _ _ red4 _ _).trans ?_
  show Finset.fold min (Ideal.ofBits .f32 0x7F800000#32) _ _ = _
  congr 1
  funext k
  exact (congrArg (val_main_v1 (F := Ideal) X) (lift4 b t g k)).trans (v1_at X b t g k)

theorem v5_at : (val_main_v5 (F := Ideal) X (ix3 b t g) : EReal) = Finset.univ.fold max (Ideal.ofBits .f32 0xFF800000#32) (grp (xr X b t) g) := by
  unfold val_main_v5
  refine (Host.reduce_eq_fold_single (max : EReal → EReal → EReal) _ _ _ red4 _ _).trans ?_
  show Finset.fold max (Ideal.ofBits .f32 0xFF800000#32) _ _ = _
  congr 1
  funext k
  exact (congrArg (val_main_v1 (F := Ideal) X) (lift4 b t g k)).trans (v1_at X b t g k)

theorem v4_at : (val_main_v4 (F := Ideal) X (ix3 b t g) : EReal) = lo (grp (xr X b t) g) := by
  rw [val_main_v4_apply, v2_at, val_main_v3_apply, val_main_cst_0_apply]
  pointwise
  rfl

theorem v7_at : (val_main_v7 (F := Ideal) X (ix3 b t g) : EReal) = hi (grp (xr X b t) g) := by
  rw [val_main_v7_apply, v5_at, val_main_v6_apply, val_main_cst_2_apply]
  pointwise
  rfl

theorem v12_at : (val_main_v12 (F := Ideal) X (ix3 b t g) : EReal) = scale (grp (xr X b t) g) := by
  rw [val_main_v12_apply, val_main_v8_apply, val_main_v11_apply, val_main_v9_apply, v4_at, v7_at, val_main_v10_apply, val_main_cst_3_apply,
    val_main_call0_v0_apply, val_main_cst_4_apply]
  pointwise
  rfl

theorem v15_at : (val_main_v15 (F := Ideal) X (ix3 b t g) : EReal) = zp (grp (xr X b t) g) := by
  rw [val_main_v15_apply, val_main_v14_apply, val_main_v13_apply, v4_at, v12_at]
  rfl

theorem v27_at : val_main_v27 (F := Ideal) X (ix3 b t g) = zpB (grp (xr X b t) g) := by
  rw [val_main_v27_apply, val_main_v26_apply, v15_at]
  rfl

theorem v23_at (k : Fin 128) : (val_main_v23 (F := Ideal) X (ix4 b t g k) : EReal) = code (grp (xr X b t) g) k := by
  have h17 : (idx_main_v16 (idx_main_v17 (ix4 b t g k))) = ix3 b t g := by funext a; fin_cases a <;> rfl
  have h21 : (idx_main_v20 (idx_main_v21 (ix4 b t g k))) = ix3 b t g := by funext a; fin_cases a <;> rfl
  rw [val_main_v23_apply, val_main_call3_v4_apply, val_main_call3_v3_apply, val_main_cst_6_apply, val_main_call3_v2_apply,
    val_main_call3_v1_apply, val_main_call3_v0_apply, val_main_cst_5_apply, val_main_v22_apply, val_main_v19_apply, val_main_v18_apply,
    val_main_v21_apply, val_main_v20_apply, val_main_v17_apply, val_main_v16_apply, h17, h21, v12_at, v15_at, v1_at]
  pointwise
  rfl

theorem v25_at (k : Fin 128) : val_main_v25 (F := Ideal) X (ix4 b t g k) = codeB (grp (xr X b t) g) k := by
  rw [val_main_v25_apply, val_main_v24_apply, v23_at]
  rfl

theorem i30 (k : Fin 64) : idx_main_v30 (ix4 b t g k) = ix5 b t g k (0 : Fin 1) := by
  funext a
  fin_cases a <;> apply Fin.ext
  · show (((b.val * 768 + t.val) * 48 + g.val) * 64 + k.val) / 2359296 = b.val
    omega
  · show (((b.val * 768 + t.val) * 48 + g.val) * 64 + k.val) / 3072 % 768 = t.val
    omega
  · show (((b.val * 768 + t.val) * 48 + g.val) * 64 + k.val) / 64 % 48 = g.val
    omega
  · show (((b.val * 768 + t.val) * 48 + g.val) * 64 + k.val) / 1 % 64 = k.val
    omega
  · rfl

theorem i32 (k : Fin 64) : idx_main_v32 (ix4 b t g k) = ix5 b t g k (0 : Fin 1) := by
  funext a
  fin_cases a <;> apply Fin.ext
  · show (((b.val * 768 + t.val) * 48 + g.val) * 64 + k.val) / 2359296 = b.val
    omega
  · show (((b.val * 768 + t.val) * 48 + g.val) * 64 + k.val) / 3072 % 768 = t.val
    omega
  · show (((b.val * 768 + t.val) * 48 + g.val) * 64 + k.val) / 64 % 48 = g.val
    omega
  · show (((b.val * 768 + t.val) * 48 + g.val) * 64 + k.val) / 1 % 64 = k.val
    omega
  · rfl

theorem i29 (k : Fin 64) : idx_main_v29 (ix5 b t g k (0 : Fin 1)) = ix5 b t g k (0 : Fin 2) := by
  funext a
  fin_cases a <;> rfl

theorem i31 (k : Fin 64) : idx_main_v31 (ix5 b t g k (0 : Fin 1)) = ix5 b t g k (1 : Fin 2) := by
  funext a
  fin_cases a <;> rfl

theorem i28 (k : Fin 64) (e : Fin 2) : idx_main_v28 (ix5 b t g k e) = ix4 b t g (⟨2 * k.val + e.val, by omega⟩ : Fin 128) := by
  funext a
  fin_cases a <;> apply Fin.ext
  · show ((((b.val * 768 + t.val) * 48 + g.val) * 64 + k.val) * 2 + e.val) / 4718592 = b.val
    omega
  · show ((((b.val * 768 + t.val) * 48 + g.val) * 64 + k.val) * 2 + e.val) / 6144 % 768 = t.val
    omega
  · show ((((b.val * 768 + t.val) * 48 + g.val) * 64 + k.val) * 2 + e.val) / 128 % 48 = g.val
    omega
  · show ((((b.val * 768 + t.val) * 48 + g.val) * 64 + k.val) * 2 + e.val) % 128 = 2 * k.val + e.val
    omega

theorem v30_at (k : Fin 64) : val_main_v30 (F := Ideal) X (ix4 b t g k) = codeB (grp (xr X b t) g) ⟨2 * k.val, by omega⟩ := by
  rw [val_main_v30_apply, val_main_v29_apply, val_main_v28_apply, i30, i29, i28, v25_at]
  rfl

theorem v32_at (k : Fin 64) : val_main_v32 (F := Ideal) X (ix4 b t g k) = codeB (grp (xr X b t) g) ⟨2 * k.val + 1, by omega⟩ := by
  rw [val_main_v32_apply, val_main_v31_apply, val_main_v28_apply, i32, i31, i28, v25_at]
  rfl

theorem pk_words (a c : BitVec 8) : (IntOp.ori (a.setWidth 32) (IntOp.shli .host (c.setWidth 32) 4#32)).setWidth 8 = pk a c := by
  show ((a.setWidth 32) ||| ((c.setWidth 32) <<< 4)).setWidth 8 = a ||| (c <<< 4)
  apply BitVec.eq_of_getLsbD_eq
  intro i hi
  interval_cases i <;> simp

theorem v39_at (j : Fin 3072) : val_main_v39 (F := Ideal) X (ix3 b t j) = pkVal (xr X b t) j := by
  have hj : idx_main_v39 (ix3 b t j) = ix4 b t (⟨j.val / 64, by omega⟩ : Fin 48) (⟨j.val % 64, by omega⟩ : Fin 64) := by
    funext a
    fin_cases a <;> apply Fin.ext
    · show ((b.val * 768 + t.val) * 3072 + j.val) / 2359296 = b.val
      omega
    · show ((b.val * 768 + t.val) * 3072 + j.val) / 3072 % 768 = t.val
      omega
    · show ((b.val * 768 + t.val) * 3072 + j.val) / 64 % 48 = j.val / 64
      omega
    · show ((b.val * 768 + t.val) * 3072 + j.val) % 64 = j.val % 64
      omega
  rw [val_main_v39_apply, hj, val_main_v38_apply, val_main_v37_apply, val_main_v33_apply, val_main_v36_apply, val_main_v34_apply,
    val_main_v35_apply, val_main_c_apply, v30_at, v32_at, pk_words]
  rfl

/-- The activation word, made real and scaled. -/
theorem act_words (v : Fin 128 → EReal) (k : Fin 128) :
    (FloatOps.mulf (FloatOps.sitofp .bf16 (IntOp.subi ((codeB v k).setWidth 32) ((zpB v).setWidth 32)) : Ideal .bf16)
      (FloatOps.truncf .bf16 bitsLt_bf16_f32 (scale v : Ideal .f32)) : EReal) = act v k := act_eq v k

theorem v53_at (k : Fin 64) : (val_main_v53 (F := Ideal) X (ix4 b t g k) : EReal) = act (grp (xr X b t) g) ⟨2 * k.val, by omega⟩ := by
  have h1 : idx_main_v41 (idx_main_v49 (ix4 b t g k)) = ix3 b t g := by funext a; fin_cases a <;> rfl
  have h2 : idx_main_v43 (idx_main_v52 (ix4 b t g k)) = ix3 b t g := by funext a; fin_cases a <;> rfl
  rw [val_main_v53_apply, val_main_v51_apply, val_main_v50_apply, val_main_v48_apply, val_main_v49_apply, val_main_v41_apply, val_main_v40_apply,
    val_main_v52_apply, val_main_v43_apply, val_main_v42_apply, h1, h2, v30_at, v27_at, v12_at, act_words]

theorem v70_at (k : Fin 64) : (val_main_v70 (F := Ideal) X (ix4 b t g k) : EReal) = act (grp (xr X b t) g) ⟨2 * k.val + 1, by omega⟩ := by
  have h1 : idx_main_v41 (idx_main_v66 (ix4 b t g k)) = ix3 b t g := by funext a; fin_cases a <;> rfl
  have h2 : idx_main_v43 (idx_main_v69 (ix4 b t g k)) = ix3 b t g := by funext a; fin_cases a <;> rfl
  rw [val_main_v70_apply, val_main_v68_apply, val_main_v67_apply, val_main_v65_apply, val_main_v66_apply, val_main_v41_apply, val_main_v40_apply,
    val_main_v69_apply, val_main_v43_apply, val_main_v42_apply, h1, h2, v32_at, v27_at, v12_at, act_words]

variable (B : IVec S16384x3072 8) (S : FVec Ideal S16384x48 .f32) (n : Fin 16384)

/-- A four-bit field as a signed word, made real. -/
theorem nib_word (m : ℕ) (hm : m < 16) :
    (FloatOps.sitofp .bf16 (Scalar.select (IntOp.cmpi .sge (BitVec.ofNat 32 m) 8#32) (IntOp.subi (BitVec.ofNat 32 m) 16#32) (BitVec.ofNat 32 m)) : Ideal .bf16)
      = sext4 m := by
  unfold sext4
  show (((Scalar.select (IntOp.cmpi .sge (BitVec.ofNat 32 m) 8#32) (IntOp.subi (BitVec.ofNat 32 m) 16#32) (BitVec.ofNat 32 m)).toInt : ℝ) : EReal) = _
  congr 2
  interval_cases m <;> rfl

theorem lo_word (c : BitVec 8) : IntOp.andi (c.setWidth 32) 15#32 = BitVec.ofNat 32 (c.toNat % 16) := by
  revert c; decide +kernel
theorem hi_word (c : BitVec 8) : IntOp.shrsi .host (c.setWidth 32) 4#32 = BitVec.ofNat 32 (c.toNat / 16) := by
  revert c; decide +kernel

theorem v45_at (k : Fin 64) : val_main_v45 (F := Ideal) B (ix3 n g k) = (B (ix2 n ⟨64 * g.val + k.val, by omega⟩)).setWidth 32 := by
  rw [val_main_v45_apply, val_main_v44_apply]
  refine congrArg (fun j => (B j).setWidth 32) (funext fun a => ?_)
  fin_cases a <;> apply Fin.ext
  · show ((n.val * 48 + g.val) * 64 + k.val) / 3072 = n.val
    omega
  · show ((n.val * 48 + g.val) * 64 + k.val) % 3072 = 64 * g.val + k.val
    omega

theorem v63_at (k : Fin 64) : (val_main_v63 (F := Ideal) B S (ix3 n g k) : EReal)
    = sext4 (nibAt (B (ix2 n ⟨64 * g.val + k.val, by omega⟩)) (2 * k.val)) * S (ix2 n g) := by
  have h : idx_main_v47 (idx_main_v62 (ix3 n g k)) = ix2 n g := by funext a; fin_cases a <;> rfl
  rw [val_main_v63_apply, val_main_v61_apply, val_main_v60_apply, val_main_v57_apply, val_main_v59_apply, val_main_v55_apply, v45_at,
    val_main_v54_apply, val_main_c_7_apply, val_main_v56_apply, val_main_c_8_apply, val_main_v58_apply, val_main_c_9_apply, lo_word,
    nib_word _ (by omega), val_main_v62_apply, val_main_v47_apply, val_main_v46_apply, h]
  unfold nibAt
  rw [if_pos (by omega)]
  rfl

theorem v80_at (k : Fin 64) : (val_main_v80 (F := Ideal) B S (ix3 n g k) : EReal)
    = sext4 (nibAt (B (ix2 n ⟨64 * g.val + k.val, by omega⟩)) (2 * k.val + 1)) * S (ix2 n g) := by
  have h : idx_main_v47 (idx_main_v79 (ix3 n g k)) = ix2 n g := by funext a; fin_cases a <;> rfl
  have hlt : (B (ix2 n ⟨64 * g.val + k.val, by omega⟩)).toNat / 16 < 16 := by
    have := (B (ix2 n ⟨64 * g.val + k.val, by omega⟩)).isLt
    omega
  rw [val_main_v80_apply, val_main_v78_apply, val_main_v77_apply, val_main_v74_apply, val_main_v76_apply, val_main_v72_apply, v45_at,
    val_main_v71_apply, val_main_c_10_apply, val_main_v73_apply, val_main_c_11_apply, val_main_v75_apply, val_main_c_12_apply, hi_word,
    nib_word _ hlt, val_main_v79_apply, val_main_v47_apply, val_main_v46_apply, h]
  unfold nibAt
  rw [if_neg (by omega)]
  rfl

theorem dot_at (L : FVec Ideal S12x768x48x64 .bf16) (R : FVec Ideal S16384x48x64 .bf16) :
    (Host.dotGeneral dot_S12x768x48x64_S16384x48x64_S12x768x16384_23_12_01_0_n_n none L R : FVec Ideal S12x768x16384 .f32) (ix3 b t n)
      = (∑ g : Fin 48, ∑ k : Fin 64, (L (ix4 b t g k) : EReal) * R (ix3 n g k) : EReal) := by
  pointwise

/-- The reference's product at an index. -/
theorem v83_at : (val_main_v83 (F := Ideal) X B S (ix3 b t n) : EReal)
    = (∑ g : Fin 48, ∑ k : Fin 64, act (grp (xr X b t) g) ⟨2 * k.val, by omega⟩ * (sext4 (nibAt (B (ix2 n ⟨64 * g.val + k.val, by omega⟩)) (2 * k.val)) * S (ix2 n g)))
      + (∑ g : Fin 48, ∑ k : Fin 64, act (grp (xr X b t) g) ⟨2 * k.val + 1, by omega⟩ * (sext4 (nibAt (B (ix2 n ⟨64 * g.val + k.val, by omega⟩)) (2 * k.val + 1)) * S (ix2 n g))) := by
  rw [val_main_v83_apply, val_main_v82_apply]
  unfold val_main_v64 val_main_v81
  rw [dot_at, dot_at]
  simp only [v53_at, v63_at, v70_at, v80_at]
  rfl

end Cert.Proof.Ref

end
-- ==== Proof.Same.lean ====
/- The kernel's four results are the reference's. -/
module

public import proofs.«01_k».proof.Proof.Run
public import proofs.«01_k».proof.Proof.Ref1

@[expose] public section

set_option maxRecDepth 16384

noncomputable section

namespace Cert.Proof

open Idealize.ShloMosaic Idealize.ShloMosaic.TcCoe Idealize.SL.Sem
open Cert.KernelIdeal Cert.KernelIdeal.Gen Cert.Proof.Ref
open Cert.ReferenceIdeal.Read (val_main_v83 val_main_v39 val_main_v12 val_main_v27)

/-- The column of the operand that holds element `e` of group `g`. -/
def cOf (g : Fin 48) (e : Fin 128) : Fin 6144 :=
  ⟨256 * (g.val / 2) + 128 * (e.val / 2 % 2) + e.val / 4 + 32 * ((g.val + e.val / 2) % 2) + 64 * (e.val % 2), by omega⟩

theorem digits (p o h d q : ℕ) (ho : o < 2) (hh : h < 2) (hd : d < 2) (hq : q < 32) (R : ℕ) (hR : R = 256 * p + 128 * o + 64 * h + 32 * d + q) :
    R / 256 = p ∧ R / 32 = 8 * p + 4 * o + 2 * h + d ∧ R / 128 = 2 * p + o ∧ R % 32 = q ∧ R % 128 / 64 = h := by
  subst hR
  refine ⟨?_, ?_, ?_, ?_, ?_⟩ <;> omega

theorem cOf_of (R : Fin 6144) : cOf (gOf R) (eOf R) = R := by
  apply Fin.ext
  obtain ⟨R, hlt⟩ := R
  obtain ⟨p, o, h, d, q, ho, hh, hd, hq, hR⟩ : ∃ p o h d q : ℕ, o < 2 ∧ h < 2 ∧ d < 2 ∧ q < 32 ∧ R = 256 * p + 128 * o + 64 * h + 32 * d + q :=
    ⟨R / 256, R / 128 % 2, R / 64 % 2, R / 32 % 2, R % 32, by omega, by omega, by omega, by omega, by omega⟩
  obtain ⟨h1, h2, h3, h4, h5⟩ := digits p o h d q ho hh hd hq R hR
  simp only [gOf, eOf, cOf, h1, h2, h3, h4, h5]
  have e1 : (4 * q + 2 * ((2 * p + o) % 2) + h) / 4 = q := by omega
  have e2 : (4 * q + 2 * ((2 * p + o) % 2) + h) / 2 = 2 * q + o := by omega
  have e3 : (4 * q + 2 * ((2 * p + o) % 2) + h) % 2 = h := by omega
  have e4 : (8 * p + 4 * o + 2 * h + d + (2 * p + o)) % 2 = (o + d) % 2 := by omega
  have e5 : (2 * p + (o + d) % 2) / 2 = p := by omega
  have e6 : (2 * p + (o + d) % 2 + (2 * q + o)) % 2 = d := by omega
  have e7 : (2 * q + o) % 2 = o := by omega
  rw [e1, e2, e3, e4, e5, e6, e7, hR]
  omega

theorem of_cOf (g : Fin 48) (e : Fin 128) : gOf (cOf g e) = g ∧ eOf (cOf g e) = e := by
  obtain ⟨g, hg⟩ := g
  obtain ⟨e, he⟩ := e
  obtain ⟨h1, h2, h3, h4, h5⟩ := digits (g / 2) (e / 2 % 2) (e % 2) ((g + e / 2) % 2) (e / 4) (by omega) (by omega) (by omega) (by omega)
    (256 * (g / 2) + 128 * (e / 2 % 2) + e / 4 + 32 * ((g + e / 2) % 2) + 64 * (e % 2)) (by omega)
  refine ⟨Fin.ext ?_, Fin.ext ?_⟩
  · simp only [gOf, cOf, h1, h2, h3]
    clear h1 h2 h3 h4 h5
    omega
  · simp only [eOf, cOf, h3, h4, h5]
    clear h1 h2 h3 h4 h5
    omega

/-- The operand's columns are the groups' elements, in another order. -/
def colEquiv : Fin 6144 ≃ Fin 48 × Fin 128 where
  toFun R := (gOf R, eOf R)
  invFun p := cOf p.1 p.2
  left_inv R := cOf_of R
  right_inv p := Prod.ext (of_cOf p.1 p.2).1 (of_cOf p.1 p.2).2

theorem split_pairs (h : Fin 128 → EReal) :
    ∑ e, h e = ∑ k : Fin 64, (h ⟨2 * k.val, by omega⟩ + h ⟨2 * k.val + 1, by omega⟩) := by
  rw [← Equiv.sum_comp (finProdFinEquiv (m := 64) (n := 2)) h, Fintype.sum_prod_type]
  refine Finset.sum_congr rfl fun k _ => ?_
  rw [Fin.sum_univ_two]
  congr 1 <;> refine congrArg h (Fin.ext ?_)
  · show 0 + 2 * k.val = 2 * k.val
    omega
  · show 1 + 2 * k.val = 2 * k.val + 1
    omega

/-- The sum over the operand's columns, as the sums over the even and the odd elements. -/
theorem sum_cols (f : Fin 48 → Fin 128 → EReal) :
    ∑ R : Fin 6144, f (gOf R) (eOf R)
      = (∑ g, ∑ k : Fin 64, f g ⟨2 * k.val, by omega⟩) + (∑ g, ∑ k : Fin 64, f g ⟨2 * k.val + 1, by omega⟩) := by
  refine (Fintype.sum_equiv colEquiv _ (fun p : Fin 48 × Fin 128 => f p.1 p.2) fun R => rfl).trans ?_
  rw [Fintype.sum_prod_type, ← Finset.sum_add_distrib]
  refine Finset.sum_congr rfl fun g _ => ?_
  rw [split_pairs, Finset.sum_add_distrib]

variable (X : FVec Ideal S12x768x6144 .bf16) (b : Fin 12) (t : Fin 768)

/-- The flattened row of a token. -/
def rowOf (b : Fin 12) (t : Fin 768) : Fin 9216 := ⟨b.val * 768 + t.val, by omega⟩

theorem flat_row : xrow (xFlat X) (rowOf b t) = xr X b t := by
  funext k
  show shapeCast S9216x6144 X shapeCasts_S12x768x6144_S9216x6144 (ix2 (rowOf b t) k) = X (ix3 b t k)
  refine shapeCast_apply X _ _ _ ?_
  rw [Shape.rowMajor_val_three, Shape.rowMajor_val_two]
  rfl

theorem cast_row {α : Type} {w : ℕ} (v : (⟨2, ![9216, w]⟩ : Shape).Idx → α) (h : (⟨2, ![9216, w]⟩ : Shape).ShapeCasts ⟨3, ![12, 768, w]⟩) (j : Fin w) :
    shapeCast (⟨3, ![12, 768, w]⟩ : Shape) v h (ix3 b t j) = v (ix2 (rowOf b t) j) := by
  refine shapeCast_apply v _ _ _ ?_
  rw [Shape.rowMajor_val_three, Shape.rowMajor_val_two]
  rfl

theorem same_scale : val_main_v12 (F := Ideal) X = kS X := by
  funext i
  obtain ⟨b, t, g, rfl⟩ : ∃ (b : Fin 12) (t : Fin 768) (g : Fin 48), i = ix3 b t g := ⟨i 0, i 1, i 2, eq_ix3 i⟩
  refine (v12_at X b t g).trans (Eq.symm ((cast_row b t (scArr (xFlat X)) _ g).trans ?_))
  show scale (grp (xrow (xFlat X) (rowOf b t)) g) = _
  rw [flat_row]

theorem same_zero : val_main_v27 (F := Ideal) X = kZ X := by
  funext i
  obtain ⟨b, t, g, rfl⟩ : ∃ (b : Fin 12) (t : Fin 768) (g : Fin 48), i = ix3 b t g := ⟨i 0, i 1, i 2, eq_ix3 i⟩
  refine (v27_at X b t g).trans (Eq.symm ((cast_row b t (zpArr (xFlat X)) _ g).trans ?_))
  show zpB (grp (xrow (xFlat X) (rowOf b t)) g) = _
  rw [flat_row]

theorem same_codes : val_main_v39 (F := Ideal) X = kC X := by
  funext i
  obtain ⟨b, t, j, rfl⟩ : ∃ (b : Fin 12) (t : Fin 768) (j : Fin 3072), i = ix3 b t j := ⟨i 0, i 1, i 2, eq_ix3 i⟩
  refine (v39_at X b t j).trans (Eq.symm ((cast_row b t (pkArr (xFlat X)) _ j).trans ?_))
  show pkVal (xrow (xFlat X) (rowOf b t)) j = _
  rw [flat_row]

variable (B : IVec S16384x3072 8) (S : FVec Ideal S16384x48 .f32)

/-- One term of the product. -/
def term (w : Fin 6144 → EReal) (n : Fin 16384) (g : Fin 48) (e : Fin 128) : EReal :=
  act (grp w g) e * (sext4 (nibAt (B (ix2 n ⟨64 * g.val + e.val / 2, by omega⟩)) e.val) * S (ix2 n g))

theorem y_at (n : Fin 16384) :
    (yArr (opArr (xFlat X)) B (transpose S48x16384 [1, 0] S transposes_S16384x48_S48x16384_1_0) (ix2 (rowOf b t) n) : EReal)
      = ∑ R : Fin 6144, term B S (xr X b t) n (gOf R) (eOf R) := by
  rw [← flat_row]
  unfold yArr
  refine Finset.sum_congr rfl fun R _ => ?_
  have hT : transpose S48x16384 [1, 0] S transposes_S16384x48_S48x16384_1_0 (ix2 (gOf R) n) = S (ix2 n (gOf R)) := by
    pointwise
  exact congrArg (fun z : EReal => opVal (xrow (xFlat X) (rowOf b t)) R * (sext4 (nibAt (B (ix2 n ⟨64 * (gOf R).val + (eOf R).val / 2, by omega⟩)) (eOf R).val) * z)) hT

theorem same_y : val_main_v83 (F := Ideal) X B S = kY X B S := by
  funext i
  obtain ⟨b, t, n, rfl⟩ : ∃ (b : Fin 12) (t : Fin 768) (n : Fin 16384), i = ix3 b t n := ⟨i 0, i 1, i 2, eq_ix3 i⟩
  refine (v83_at X b t B S n).trans (Eq.symm ((cast_row b t _ _ n).trans ((y_at X b t B S n).trans ((sum_cols _).trans ?_))))
  refine congrArg₂ (fun p q : EReal => p + q) (Finset.sum_congr rfl fun g _ => Finset.sum_congr rfl fun k _ => ?_)
    (Finset.sum_congr rfl fun g _ => Finset.sum_congr rfl fun k _ => ?_)
  · have h : 64 * g.val + 2 * k.val / 2 = 64 * g.val + k.val := by omega
    unfold term
    simp only [h]
  · have h : 64 * g.val + (2 * k.val + 1) / 2 = 64 * g.val + k.val := by omega
    unfold term
    simp only [h]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import Idealize.ShloMosaic.Adequacy
public import Idealize.ShloMosaic.Init

@[expose] public section

noncomputable section

namespace Cert.Proof

open Idealize.ShloMosaic Idealize.SL.Sem Cert.Kernel

/-- `Cert.quiescent_ReferenceIdeal`: the reference's run, read at its arguments; it declares no semaphore. -/
theorem frame_reference : Cert.quiescent_ReferenceIdeal := by
  intro m ρ _
  exact (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- `Cert.algebraic_KernelIdeal_ReferenceIdeal`: from the same arguments the two programs end with the same four results. -/
theorem algebraic : Cert.algebraic_KernelIdeal_ReferenceIdeal := by
  intro m g m' g' _ hm
  refine ⟨_, _, _, _, kernel_run m g, (θ_run Cert.ReferenceIdeal.defs _ _).mono (fun r h c => ?_) (Cert.ReferenceIdeal.Value.run (F := Ideal) m' g')⟩
  obtain ⟨h0, h1, h2⟩ := hm c
  obtain ⟨hy, hc, hs, hz, ha⟩ := h c
  refine ⟨hy.trans ?_, hc.trans ?_, hs.trans ?_, hz.trans ?_, ha⟩
  · rw [Cert.ReferenceIdeal.Read.val_main_v83_eq, h0, h1, h2]
    exact same_y _ _ _
  · rw [Cert.ReferenceIdeal.Read.val_main_v39_eq, h0]
    exact same_codes _
  · rw [Cert.ReferenceIdeal.Read.val_main_v12_eq, h0]
    exact same_scale _
  · rw [Cert.ReferenceIdeal.Read.val_main_v27_eq, h0]
    exact same_zero _

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
